-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tables_finite [hPre_tables_finite : Cert.Pre_tables_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_finite [hPre_tables_finite : Cert.Pre_tables_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tables_finite [hKernelIdeal : Cert.KernelIdeal.Facts] [hPre_tables_finite : Cert.Pre_tables_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tables_finite [hReferenceIdeal : Cert.ReferenceIdeal.Facts] [hPre_tables_finite : Cert.Pre_tables_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_two_pi" .f32 0x3E22F983#32 (((2 * Real.pi)⁻¹ : ℝ) : EReal)

def algebraic_KernelIdeal_ReferenceIdeal_pre_tables_finite [hKernelIdeal : Cert.KernelIdeal.Facts] [hReferenceIdeal : Cert.ReferenceIdeal.Facts] [hPre_tables_finite : Cert.Pre_tables_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_near_reference_pre_inputs_finite [hKernelIdeal : Cert.KernelIdeal.Facts] [hPre_inputs_finite : Cert.Pre_inputs_finite.Facts] [hPost_near_reference : Cert.Post_near_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hPre_tables_finite : Cert.Pre_tables_finite.Facts) (hPre_inputs_finite : Cert.Pre_inputs_finite.Facts) (hPost_near_reference : Cert.Post_near_reference.Facts),
    quiescent_Kernel (hKernel := hKernel)
    ∧ quiescent_KernelIdeal (hKernelIdeal := hKernelIdeal)
    ∧ quiescent_KernelIdeal_pre_tables_finite (hKernelIdeal := hKernelIdeal) (hPre_tables_finite := hPre_tables_finite)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_tables_finite (hReferenceIdeal := hReferenceIdeal) (hPre_tables_finite := hPre_tables_finite)
    ∧ preserves_Kernel_KernelIdeal
    ∧ algebraic_KernelIdeal_ReferenceIdeal_pre_tables_finite (hKernelIdeal := hKernelIdeal) (hReferenceIdeal := hReferenceIdeal) (hPre_tables_finite := hPre_tables_finite)
    ∧ holds_KernelIdeal_near_reference_pre_inputs_finite (hKernelIdeal := hKernelIdeal) (hPre_inputs_finite := hPre_inputs_finite) (hPost_near_reference := hPost_near_reference)
-- ==== Post_near_reference.lean ====
abbrev S1024x200x2 : Shape := ⟨3, ![1024, 200, 2]⟩
abbrev S5x64 : Shape := ⟨2, ![5, 64]⟩
abbrev S512x256 : Shape := ⟨2, ![512, 256]⟩
abbrev S1024x200x512 : Shape := ⟨3, ![1024, 200, 512]⟩
abbrev S_ : Shape := ⟨0, ![]⟩
abbrev S1024x200x1 : Shape := ⟨3, ![1024, 200, 1]⟩
abbrev S1024x200 : Shape := ⟨2, ![1024, 200]⟩
abbrev S1 : Shape := ⟨1, ![1]⟩
abbrev S1x1x1 : Shape := ⟨3, ![1, 1, 1]⟩
abbrev S1024x200x64 : Shape := ⟨3, ![1024, 200, 64]⟩
abbrev S32 : Shape := ⟨1, ![32]⟩
abbrev S1x1x32 : Shape := ⟨3, ![1, 1, 32]⟩
abbrev S1024x200x32 : Shape := ⟨3, ![1024, 200, 32]⟩
abbrev S1024x1x200x2 : Shape := ⟨4, ![1024, 1, 200, 2]⟩
abbrev S1024x200x1x2 : Shape := ⟨4, ![1024, 200, 1, 2]⟩
abbrev S1024x200x200x2 : Shape := ⟨4, ![1024, 200, 200, 2]⟩
abbrev S1x200x200x1 : Shape := ⟨4, ![1, 200, 200, 1]⟩
abbrev S1024x200x256 : Shape := ⟨3, ![1024, 200, 256]⟩
abbrev S256x512 : Shape := ⟨2, ![256, 512]⟩
abbrev S512 : Shape := ⟨1, ![512]⟩
abbrev S1x1x512 : Shape := ⟨3, ![1, 1, 512]⟩

class Facts : Prop where
  bcast_S_S1024x200x2 : S_.BroadcastsInDim S1024x200x2 (![] : Fin 0 → Fin S1024x200x2.rank)
  natLt_1_32 : 1 < 32
  bcast_S_S_ : S_.BroadcastsInDim S_ (![] : Fin 0 → Fin S_.rank)
  reduceWindows_S1024x200x2_S1024x200x2_w1s1p0_0_w200s1p199_0_w1s1p0_0 : S1024x200x2.ReduceWindows (![1, 200, 1] : Fin 3 → Nat) ![1, 1, 1] ![0, 199, 0] ![0, 0, 0] S1024x200x2
  h_S_ : 0 < S_.numel
  slices_S1024x200x2_S1024x200x1_0_0_0 : S1024x200x2.Slices ![0, 0, 0] S1024x200x1
  shapeCasts_S1024x200x1_S1024x200 : S1024x200x1.ShapeCasts S1024x200
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  bcast_S1024x200_S1024x200x64_0_1 : S1024x200.BroadcastsInDim S1024x200x64 (![0, 1] : Fin 2 → Fin S1024x200x64.rank)
  bcast_S_S1024x200x64 : S_.BroadcastsInDim S1024x200x64 (![] : Fin 0 → Fin S1024x200x64.rank)
  bcast_S_S32 : S_.BroadcastsInDim S32 (![] : Fin 0 → Fin S32.rank)
  bcast_S32_S1x1x32_2 : S32.BroadcastsInDim S1x1x32 (![2] : Fin 1 → Fin S1x1x32.rank)
  bcast_S1024x200x1_S1024x200x32_0_1_2 : S1024x200x1.BroadcastsInDim S1024x200x32 (![0, 1, 2] : Fin 3 → Fin S1024x200x32.rank)
  bcast_S1x1x32_S1024x200x32_0_1_2 : S1x1x32.BroadcastsInDim S1024x200x32 (![0, 1, 2] : Fin 3 → Fin S1024x200x32.rank)
  concatenates_S1024x200x32_S1024x200x32_S1024x200x64_d2 : Shape.Concatenates [S1024x200x32, S1024x200x32] S1024x200x64 2
  slices_S1024x200x2_S1024x200x1_0_0_1 : S1024x200x2.Slices ![0, 0, 1] S1024x200x1
  bcast_S1024x200x2_S1024x1x200x2_0_2_3 : S1024x200x2.BroadcastsInDim S1024x1x200x2 (![0, 2, 3] : Fin 3 → Fin S1024x1x200x2.rank)
  bcast_S1024x200x2_S1024x200x1x2_0_1_3 : S1024x200x2.BroadcastsInDim S1024x200x1x2 (![0, 1, 3] : Fin 3 → Fin S1024x200x1x2.rank)
  bcast_S1024x200x1x2_S1024x200x200x2_0_1_2_3 : S1024x200x1x2.BroadcastsInDim S1024x200x200x2 (![0, 1, 2, 3] : Fin 4 → Fin S1024x200x200x2.rank)
  bcast_S1024x1x200x2_S1024x200x200x2_0_1_2_3 : S1024x1x200x2.BroadcastsInDim S1024x200x200x2 (![0, 1, 2, 3] : Fin 4 → Fin S1024x200x200x2.rank)
  bcast_S1x200x200x1_S1024x200x200x2_0_1_2_3 : S1x200x200x1.BroadcastsInDim S1024x200x200x2 (![0, 1, 2, 3] : Fin 4 → Fin S1024x200x200x2.rank)
  bcast_S_S1024x200x200x2 : S_.BroadcastsInDim S1024x200x200x2 (![] : Fin 0 → Fin S1024x200x200x2.rank)
  reducesTo_S1024x200x200x2_S1024x200x2_d2 : S1024x200x200x2.ReducesTo [2] S1024x200x2
  concatenates_S1024x200x64_S1024x200x64_S1024x200x64_S1024x200x64_S1024x200x256_d2 : Shape.Concatenates [S1024x200x64, S1024x200x64, S1024x200x64, S1024x200x64] S1024x200x256 2
  transposes_S512x256_S256x512_1_0 : S512x256.Transposes [1, 0] S256x512
  reducesTo_S512x256_S512_d1 : S512x256.ReducesTo [1] S512
  bcast_S_S512 : S_.BroadcastsInDim S512 (![] : Fin 0 → Fin S512.rank)
  bcast_S512_S1x1x512_2 : S512.BroadcastsInDim S1x1x512 (![2] : Fin 1 → Fin S1x1x512.rank)
  bcast_S1x1x512_S1024x200x512_0_1_2 : S1x1x512.BroadcastsInDim S1024x200x512 (![0, 1, 2] : Fin 3 → Fin S1024x200x512.rank)
  gather_S5x64_S1024x200x1_S1024x200x64_2_0_n_n_0_2_164_wf : GatherDims.WF S5x64 S1024x200x1 S1024x200x64 [2] [0] [] [0] [] 2 ![1, 64]
  dot_S1024x200x256_S256x512_S1024x200x512_2_0_01_1_n_n_wf : DotDims.WF S1024x200x256 S256x512 S1024x200x512 [2] [0] [0, 1] [1] [] []

variable [Facts]

def gather_S5x64_S1024x200x1_S1024x200x64_2_0_n_n_0_2_164 : GatherDims S5x64 S1024x200x1 S1024x200x64 where
  offsetDims := [2]
  collapsedSliceDims := [0]
  operandBatchingDims := []
  startIndicesBatchingDims := []
  startIndexMap := [0]
  indexVectorDim := 2
  sliceSizes := ![1, 64]
  wf := gather_S5x64_S1024x200x1_S1024x200x64_2_0_n_n_0_2_164_wf
def dot_S1024x200x256_S256x512_S1024x200x512_2_0_01_1_n_n : DotDims S1024x200x256 S256x512 S1024x200x512 where
  lhsContracting := [2]
  rhsContracting := [0]
  lhsNonContracting := [0, 1]
  rhsNonContracting := [1]
  lhsBatch := []
  rhsBatch := []
  wf := dot_S1024x200x256_S256x512_S1024x200x512_2_0_01_1_n_n_wf
def fn_where {F : FTy → Type} [FloatOps F] (arg0 : IVec S1024x200x2 1) (arg1 : IVec S1024x200x2 32) (arg2 : IVec S_ 32) : IVec S1024x200x2 32 :=
  let v0 : IVec S_ 32 := id arg2
  let v1 : IVec S1024x200x2 32 := broadcastInDim S1024x200x2 ![] bcast_S_S1024x200x2 v0
  let v2 : IVec S1024x200x2 32 := select arg0 arg1 v1
  v2

def fn_where_0 {F : FTy → Type} [FloatOps F] (arg0 : IVec S1024x200x2 1) (arg1 : FVec F S_ .f32) (arg2 : FVec F S1024x200x2 .f32) : FVec F S1024x200x2 .f32 :=
  let v0 : FVec F S1024x200x2 .f32 := broadcastInDim S1024x200x2 ![] bcast_S_S1024x200x2 arg1
  let v1 : FVec F S1024x200x2 .f32 := select arg0 v0 arg2
  v1

def fn_cumsum_1 {F : FTy → Type} [FloatOps F] (arg0 : IVec S1024x200x2 32) : IVec S1024x200x2 32 :=
  let c : IVec S_ 32 := constantI S_ 32 0#32
  let v0 : IVec S_ 32 := broadcastInDim S_ ![] bcast_S_S_ c
  let v1 : IVec S1024x200x2 32 := (fun x v => Host.reduceWindow IntOp.addi ![1, 200, 1] ![1, 1, 1] ![0, 199, 0] ![0, 0, 0] x v reduceWindows_S1024x200x2_S1024x200x2_w1s1p0_0_w200s1p199_0_w1s1p0_0 h_S_) arg0 v0
  v1

def fn_cumsum {F : FTy → Type} [FloatOps F] (arg0 : IVec S1024x200x2 32) : IVec S1024x200x2 32 :=
  let v0 : IVec S1024x200x2 32 := fn_cumsum_1 (F := F) arg0
  v0

def fn_cumsum_3 {F : FTy → Type} [FloatOps F] (arg0 : FVec F S1024x200x2 .f32) : FVec F S1024x200x2 .f32 :=
  let cst : FVec F S_ .f32 := constant S_ .f32 0x00000000#32
  let v0 : FVec F S_ .f32 := broadcastInDim S_ ![] bcast_S_S_ cst
  let v1 : FVec F S1024x200x2 .f32 := (fun x v => Host.reduceWindowAdd ![1, 200, 1] ![1, 1, 1] ![0, 199, 0] ![0, 0, 0] x v reduceWindows_S1024x200x2_S1024x200x2_w1s1p0_0_w200s1p199_0_w1s1p0_0 h_S_) arg0 v0
  v1

def fn_cumsum_2 {F : FTy → Type} [FloatOps F] (arg0 : FVec F S1024x200x2 .f32) : FVec F S1024x200x2 .f32 :=
  let v0 : FVec F S1024x200x2 .f32 := fn_cumsum_3 (F := F) arg0
  v0

def fn_where_4 {F : FTy → Type} [FloatOps F] (arg0 : IVec S1024x200x2 1) (arg1 : FVec F S_ .f32) (arg2 : FVec F S1024x200x2 .f32) : FVec F S1024x200x2 .f32 :=
  let v0 : FVec F S1024x200x2 .f32 := broadcastInDim S1024x200x2 ![] bcast_S_S1024x200x2 arg1
  let v1 : FVec F S1024x200x2 .f32 := select arg0 v0 arg2
  v1

def fn_where_5 {F : FTy → Type} [FloatOps F] (arg0 : IVec S1024x200x2 1) (arg1 : IVec S_ 32) (arg2 : IVec S1024x200x2 32) : IVec S1024x200x2 32 :=
  let v0 : IVec S_ 32 := id arg1
  let v1 : IVec S1024x200x2 32 := broadcastInDim S1024x200x2 ![] bcast_S_S1024x200x2 v0
  let v2 : IVec S1024x200x2 32 := select arg0 v1 arg2
  v2

def fn_where_6 {F : FTy → Type} [FloatOps F] (arg0 : IVec S1024x200 1) (arg1 : IVec S1024x200 32) (arg2 : IVec S1024x200 32) : IVec S1024x200 32 :=
  let v0 : IVec S1024x200 32 := select arg0 arg1 arg2
  v0

def fn_take {F : FTy → Type} [FloatOps F] (arg0 : FVec F S5x64 .f32) (arg1 : IVec S1024x200 32) : FVec F S1024x200x64 .f32 :=
  let c : IVec S_ 32 := constantI S_ 32 0#32
  let v0 : IVec S1024x200 32 := broadcastInDim S1024x200 ![] bcast_S_S1024x200 c
  let v1 : IVec S1024x200 1 := cmpi .slt arg1 v0
  let c_0 : IVec S_ 32 := constantI S_ 32 5#32
  let v2 : IVec S1024x200 32 := broadcastInDim S1024x200 ![] bcast_S_S1024x200 c_0
  let v3 : IVec S1024x200 32 := addi arg1 v2
  let v4 : IVec S1024x200 32 := fn_where_6 (F := F) v1 v3 arg1
  let v5 : IVec S1024x200x1 32 := broadcastInDim S1024x200x1 ![0, 1] bcast_S1024x200_S1024x200x1_0_1 v4
  let c_1 : IVec S1 32 := constantI S1 32 4#32
  let c_2 : IVec S_ 32 := constantI S_ 32 0#32
  let v6 : IVec S1024x200x1 32 := broadcastInDim S1024x200x1 ![] bcast_S_S1024x200x1 c_2
  let v7 : IVec S1024x200x1 1 := cmpi .sge v5 v6
  let v8 : IVec S1x1x1 32 := broadcastInDim S1x1x1 ![2] bcast_S1_S1x1x1_2 c_1
  let v9 : IVec S1024x200x1 32 := broadcastInDim S1024x200x1 ![0, 1, 2] bcast_S1x1x1_S1024x200x1_0_1_2 v8
  let v10 : IVec S1024x200x1 1 := cmpi .sle v5 v9
  let v11 : IVec S1024x200x1 1 := andi v7 v10
  let c_3 : IVec S_ 1 := constantI S_ 1 1#1
  let v12 : IVec S1024x200 1 := (fun x v => Host.reduce IntOp.andi x v reducesTo_S1024x200x1_S1024x200_d2 h_S_) v11 c_3
  let v13 : FVec F S1024x200x64 .f32 := (fun x i => Host.gather gather_S5x64_S1024x200x1_S1024x200x64_2_0_n_n_0_2_164 x i) arg0 v5
  let v14 : IVec S1024x200x64 1 := broadcastInDim S1024x200x64 ![0, 1] bcast_S1024x200_S1024x200x64_0_1 v12
  let cst : FVec F S_ .f32 := constant S_ .f32 0x7FC00000#32
  let v15 : FVec F S1024x200x64 .f32 := broadcastInDim S1024x200x64 ![] bcast_S_S1024x200x64 cst
  let v16 : FVec F S1024x200x64 .f32 := select v14 v13 v15
  v16

def fn_where_7 {F : FTy → Type} [FloatOps F] (arg0 : IVec S1024x200x2 1) (arg1 : FVec F S_ .f32) (arg2 : FVec F S_ .f32) : FVec F S1024x200x2 .f32 :=
  let v0 : FVec F S1024x200x2 .f32 := broadcastInDim S1024x200x2 ![] bcast_S_S1024x200x2 arg1
  let v1 : FVec F S1024x200x2 .f32 := broadcastInDim S1024x200x2 ![] bcast_S_S1024x200x2 arg2
  let v2 : FVec F S1024x200x2 .f32 := select arg0 v0 v1
  v2

def fn_where_8 {F : FTy → Type} [FloatOps F] (arg0 : IVec S1x200x200x1 1) (arg1 : FVec F S1024x200x200x2 .f32) (arg2 : FVec F S_ .f32) : FVec F S1024x200x200x2 .f32 :=
  let v0 : IVec S1024x200x200x2 1 := broadcastInDim S1024x200x200x2 ![0, 1, 2, 3] bcast_S1x200x200x1_S1024x200x200x2_0_1_2_3 arg0
  let v1 : FVec F S1024x200x200x2 .f32 := broadcastInDim S1024x200x200x2 ![] bcast_S_S1024x200x200x2 arg2
  let v2 : FVec F S1024x200x200x2 .f32 := select v0 arg1 v1
  v2

def fn_round {F : FTy → Type} [FloatOps F] (arg0 : FVec F S1024x200x2 .f32) : FVec F S1024x200x2 .f32 :=
  let cst : FVec F S_ .f32 := constant S_ .f32 0x461C4000#32
  let v0 : FVec F S1024x200x2 .f32 := broadcastInDim S1024x200x2 ![] bcast_S_S1024x200x2 cst
  let v1 : FVec F S1024x200x2 .f32 := mulf arg0 v0
  let v2 : FVec F S1024x200x2 .f32 := Host.roundeven v1
  let cst_0 : FVec F S_ .f32 := constant S_ .f32 0x461C4000#32
  let v3 : FVec F S1024x200x2 .f32 := broadcastInDim S1024x200x2 ![] bcast_S_S1024x200x2 cst_0
  let v4 : FVec F S1024x200x2 .f32 := Host.divf v2 v3
  v4

def fn_part7 {F : FTy → Type} [FloatOps F] (main_arg4 : FVec F S512x256 .f32) (main_v143 : FVec F S1024x200x512 .f32) : IVec S1024x200x512 1 :=
  let main_v144 : FVec F S1024x200x512 .f32 := Host.absf main_v143
  let main_v145 : FVec F S512x256 .f32 := Host.absf main_arg4
  let main_cst_22 : FVec F S_ .f32 := constant S_ .f32 0x00000000#32
  let main_v146 : FVec F S512 .f32 := (fun x v => Host.reduceAdd x v reducesTo_S512x256_S512_d1 h_S_) main_v145 main_cst_22
  let main_cst_23 : FVec F S_ .f32 := constant S_ .f32 0x3B000000#32
  let main_v147 : FVec F S512 .f32 := broadcastInDim S512 ![] bcast_S_S512 main_cst_23
  let main_v148 : FVec F S512 .f32 := mulf main_v147 main_v146
  let main_v149 : FVec F S1x1x512 .f32 := broadcastInDim S1x1x512 ![2] bcast_S512_S1x1x512_2 main_v148
  let main_v150 : FVec F S1024x200x512 .f32 := broadcastInDim S1024x200x512 ![0, 1, 2] bcast_S1x1x512_S1024x200x512_0_1_2 main_v149
  let main_v151 : IVec S1024x200x512 1 := cmpf .ole main_v144 main_v150
  main_v151

def fn_part6 {F : FTy → Type} [FloatOps F] (main_arg3 : FVec F S5x64 .f32) (main_arg4 : FVec F S512x256 .f32) (main_arg5 : FVec F S1024x200x512 .f32) (main_v41 : FVec F S1024x200x64 .f32) (main_v63 : FVec F S1024x200x64 .f32) (main_v117 : FVec F S1024x200x64 .f32) (main_v119 : IVec S1024x200 32) (main_v121 : FVec F S1024x200 .f32) : IVec S1024x200x512 1 :=
  let main_v122 : FVec F S1024x200x64 .f32 := fn_take (F := F) main_arg3 main_v119
  let main_v123 : FVec F S1024x200x1 .f32 := broadcastInDim S1024x200x1 ![0, 1] bcast_S1024x200_S1024x200x1_0_1 main_v121
  let main_cst_20 : FVec F S_ .f32 := constant S_ .f32 0x461C4000#32
  let main_v124 : FVec F S_ .f32 := Host.log main_cst_20
  let main_v125 : FVec F S_ .f32 := Host.negf main_v124
  let main_v126 : FVec F S32 .f32 := sitofp .f32 (iotaInDim S32 32 0)
  let main_v127 : FVec F S32 .f32 := broadcastInDim S32 ![] bcast_S_S32 main_v125
  let main_v128 : FVec F S32 .f32 := mulf main_v127 main_v126
  let main_cst_21 : FVec F S_ .f32 := constant S_ .f32 0x42000000#32
  let main_v129 : FVec F S32 .f32 := broadcastInDim S32 ![] bcast_S_S32 main_cst_21
  let main_v130 : FVec F S32 .f32 := Host.divf main_v128 main_v129
  let main_v131 : FVec F S32 .f32 := Host.exp main_v130
  let main_v132 : FVec F S1x1x32 .f32 := broadcastInDim S1x1x32 ![2] bcast_S32_S1x1x32_2 main_v131
  let main_v133 : FVec F S1024x200x32 .f32 := broadcastInDim S1024x200x32 ![0, 1, 2] bcast_S1024x200x1_S1024x200x32_0_1_2 main_v123
  let main_v134 : FVec F S1024x200x32 .f32 := broadcastInDim S1024x200x32 ![0, 1, 2] bcast_S1x1x32_S1024x200x32_0_1_2 main_v132
  let main_v135 : FVec F S1024x200x32 .f32 := mulf main_v133 main_v134
  let main_v136 : FVec F S1024x200x32 .f32 := Host.sin main_v135
  let main_v137 : FVec F S1024x200x32 .f32 := Host.cos main_v135
  let main_v138 : FVec F S1024x200x64 .f32 := (fun a b => concatenate S1024x200x64 2 [⟨S1024x200x32, a⟩, ⟨S1024x200x32, b⟩] concatenates_S1024x200x32_S1024x200x32_S1024x200x64_d2) main_v136 main_v137
  let main_v139 : FVec F S1024x200x64 .f32 := addf main_v122 main_v138
  let main_v140 : FVec F S1024x200x256 .f32 := concatenate S1024x200x256 2 [⟨S1024x200x64, main_v41⟩, ⟨S1024x200x64, main_v63⟩, ⟨S1024x200x64, main_v117⟩, ⟨S1024x200x64, main_v139⟩] concatenates_S1024x200x64_S1024x200x64_S1024x200x64_S1024x200x64_S1024x200x256_d2
  let main_v141 : FVec F S256x512 .f32 := (transpose S256x512 [1, 0] · transposes_S512x256_S256x512_1_0) main_arg4
  let main_v142 : FVec F S1024x200x512 .f32 := (fun l r => Host.dotGeneral dot_S1024x200x256_S256x512_S1024x200x512_2_0_01_1_n_n none l r) main_v140 main_v141
  let main_v143 : FVec F S1024x200x512 .f32 := subf main_arg5 main_v142
  fn_part7 (F := F) main_arg4 main_v143

def fn_part5 {F : FTy → Type} [FloatOps F] (main_arg2 : FVec F S5x64 .f32) (main_arg3 : FVec F S5x64 .f32) (main_arg4 : FVec F S512x256 .f32) (main_arg5 : FVec F S1024x200x512 .f32) (main_v2 : IVec S1024x200x2 32) (main_v41 : FVec F S1024x200x64 .f32) (main_v63 : FVec F S1024x200x64 .f32) (main_v95 : FVec F S1024x200x2 .f32) (main_v97 : IVec S1024x200 32) (main_v99 : FVec F S1024x200 .f32) : IVec S1024x200x512 1 :=
  let main_v100 : FVec F S1024x200x64 .f32 := fn_take (F := F) main_arg2 main_v97
  let main_v101 : FVec F S1024x200x1 .f32 := broadcastInDim S1024x200x1 ![0, 1] bcast_S1024x200_S1024x200x1_0_1 main_v99
  let main_cst_18 : FVec F S_ .f32 := constant S_ .f32 0x461C4000#32
  let main_v102 : FVec F S_ .f32 := Host.log main_cst_18
  let main_v103 : FVec F S_ .f32 := Host.negf main_v102
  let main_v104 : FVec F S32 .f32 := sitofp .f32 (iotaInDim S32 32 0)
  let main_v105 : FVec F S32 .f32 := broadcastInDim S32 ![] bcast_S_S32 main_v103
  let main_v106 : FVec F S32 .f32 := mulf main_v105 main_v104
  let main_cst_19 : FVec F S_ .f32 := constant S_ .f32 0x42000000#32
  let main_v107 : FVec F S32 .f32 := broadcastInDim S32 ![] bcast_S_S32 main_cst_19
  let main_v108 : FVec F S32 .f32 := Host.divf main_v106 main_v107
  let main_v109 : FVec F S32 .f32 := Host.exp main_v108
  let main_v110 : FVec F S1x1x32 .f32 := broadcastInDim S1x1x32 ![2] bcast_S32_S1x1x32_2 main_v109
  let main_v111 : FVec F S1024x200x32 .f32 := broadcastInDim S1024x200x32 ![0, 1, 2] bcast_S1024x200x1_S1024x200x32_0_1_2 main_v101
  let main_v112 : FVec F S1024x200x32 .f32 := broadcastInDim S1024x200x32 ![0, 1, 2] bcast_S1x1x32_S1024x200x32_0_1_2 main_v110
  let main_v113 : FVec F S1024x200x32 .f32 := mulf main_v111 main_v112
  let main_v114 : FVec F S1024x200x32 .f32 := Host.sin main_v113
  let main_v115 : FVec F S1024x200x32 .f32 := Host.cos main_v113
  let main_v116 : FVec F S1024x200x64 .f32 := (fun a b => concatenate S1024x200x64 2 [⟨S1024x200x32, a⟩, ⟨S1024x200x32, b⟩] concatenates_S1024x200x32_S1024x200x32_S1024x200x64_d2) main_v114 main_v115
  let main_v117 : FVec F S1024x200x64 .f32 := addf main_v100 main_v116
  let main_v118 : IVec S1024x200x1 32 := (extractStridedSlice S1024x200x1 ![0, 0, 1] · slices_S1024x200x2_S1024x200x1_0_0_1) main_v2
  let main_v119 : IVec S1024x200 32 := shapeCast S1024x200 main_v118 shapeCasts_S1024x200x1_S1024x200
  let main_v120 : FVec F S1024x200x1 .f32 := (extractStridedSlice S1024x200x1 ![0, 0, 1] · slices_S1024x200x2_S1024x200x1_0_0_1) main_v95
  let main_v121 : FVec F S1024x200 .f32 := shapeCast S1024x200 main_v120 shapeCasts_S1024x200x1_S1024x200
  fn_part6 (F := F) main_arg3 main_arg4 main_arg5 main_v41 main_v63 main_v117 main_v119 main_v121

def fn_part4 {F : FTy → Type} [FloatOps F] (main_arg2 : FVec F S5x64 .f32) (main_arg3 : FVec F S5x64 .f32) (main_arg4 : FVec F S512x256 .f32) (main_arg5 : FVec F S1024x200x512 .f32) (main_v2 : IVec S1024x200x2 32) (main_v41 : FVec F S1024x200x64 .f32) (main_v63 : FVec F S1024x200x64 .f32) (main_v69 : FVec F S1024x200x2 .f32) (main_v72 : FVec F S1024x200x2 .f32) (main_v77 : FVec F S1024x200x2 .f32) : IVec S1024x200x512 1 :=
  let main_v78 : FVec F S1024x1x200x2 .f32 := broadcastInDim S1024x1x200x2 ![0, 2, 3] bcast_S1024x200x2_S1024x1x200x2_0_2_3 main_v72
  let main_v79 : FVec F S1024x1x200x2 .f32 := broadcastInDim S1024x1x200x2 ![0, 2, 3] bcast_S1024x200x2_S1024x1x200x2_0_2_3 main_v69
  let main_v80 : FVec F S1024x200x1x2 .f32 := broadcastInDim S1024x200x1x2 ![0, 1, 3] bcast_S1024x200x2_S1024x200x1x2_0_1_3 main_v77
  let main_v81 : FVec F S1024x1x200x2 .f32 := broadcastInDim S1024x1x200x2 ![0, 2, 3] bcast_S1024x200x2_S1024x1x200x2_0_2_3 main_v77
  let main_v82 : FVec F S1024x200x200x2 .f32 := broadcastInDim S1024x200x200x2 ![0, 1, 2, 3] bcast_S1024x200x1x2_S1024x200x200x2_0_1_2_3 main_v80
  let main_v83 : FVec F S1024x200x200x2 .f32 := broadcastInDim S1024x200x200x2 ![0, 1, 2, 3] bcast_S1024x1x200x2_S1024x200x200x2_0_1_2_3 main_v81
  let main_v84 : FVec F S1024x200x200x2 .f32 := subf main_v82 main_v83
  let main_v85 : FVec F S1024x200x200x2 .f32 := broadcastInDim S1024x200x200x2 ![0, 1, 2, 3] bcast_S1024x1x200x2_S1024x200x200x2_0_1_2_3 main_v79
  let main_v86 : FVec F S1024x200x200x2 .f32 := addf main_v85 main_v84
  let main_v87 : FVec F S1024x200x200x2 .f32 := Host.exp main_v86
  let main_v88 : FVec F S1024x200x200x2 .f32 := broadcastInDim S1024x200x200x2 ![0, 1, 2, 3] bcast_S1024x1x200x2_S1024x200x200x2_0_1_2_3 main_v78
  let main_v89 : FVec F S1024x200x200x2 .f32 := mulf main_v88 main_v87
  let main_v90 : IVec S1x200x200x1 32 := iotaInDim S1x200x200x1 32 1
  let main_v91 : IVec S1x200x200x1 32 := iotaInDim S1x200x200x1 32 2
  let main_v92 : IVec S1x200x200x1 1 := cmpi .sle main_v91 main_v90
  let main_cst_16 : FVec F S_ .f32 := constant S_ .f32 0x00000000#32
  let main_v93 : FVec F S1024x200x200x2 .f32 := fn_where_8 (F := F) main_v92 main_v89 main_cst_16
  let main_cst_17 : FVec F S_ .f32 := constant S_ .f32 0x00000000#32
  let main_v94 : FVec F S1024x200x2 .f32 := (fun x v => Host.reduceAdd x v reducesTo_S1024x200x200x2_S1024x200x2_d2 h_S_) main_v93 main_cst_17
  let main_v95 : FVec F S1024x200x2 .f32 := fn_round (F := F) main_v94
  let main_v96 : IVec S1024x200x1 32 := (extractStridedSlice S1024x200x1 ![0, 0, 0] · slices_S1024x200x2_S1024x200x1_0_0_0) main_v2
  let main_v97 : IVec S1024x200 32 := shapeCast S1024x200 main_v96 shapeCasts_S1024x200x1_S1024x200
  let main_v98 : FVec F S1024x200x1 .f32 := (extractStridedSlice S1024x200x1 ![0, 0, 0] · slices_S1024x200x2_S1024x200x1_0_0_0) main_v95
  let main_v99 : FVec F S1024x200 .f32 := shapeCast S1024x200 main_v98 shapeCasts_S1024x200x1_S1024x200
  fn_part5 (F := F) main_arg2 main_arg3 main_arg4 main_arg5 main_v2 main_v41 main_v63 main_v95 main_v97 main_v99

def fn_part3 {F : FTy → Type} [FloatOps F] (main_arg2 : FVec F S5x64 .f32) (main_arg3 : FVec F S5x64 .f32) (main_arg4 : FVec F S512x256 .f32) (main_arg5 : FVec F S1024x200x512 .f32) (main_v2 : IVec S1024x200x2 32) (main_v3 : FVec F S1024x200x2 .f32) (main_v9 : IVec S1024x200x2 1) (main_v41 : FVec F S1024x200x64 .f32) (main_v46 : FVec F S1024x200x64 .f32) (main_v57 : FVec F S1024x200x32 .f32) (main_v58 : FVec F S1024x200x32 .f32) : IVec S1024x200x512 1 :=
  let main_v59 : FVec F S1024x200x32 .f32 := mulf main_v57 main_v58
  let main_v60 : FVec F S1024x200x32 .f32 := Host.sin main_v59
  let main_v61 : FVec F S1024x200x32 .f32 := Host.cos main_v59
  let main_v62 : FVec F S1024x200x64 .f32 := (fun a b => concatenate S1024x200x64 2 [⟨S1024x200x32, a⟩, ⟨S1024x200x32, b⟩] concatenates_S1024x200x32_S1024x200x32_S1024x200x64_d2) main_v60 main_v61
  let main_v63 : FVec F S1024x200x64 .f32 := addf main_v46 main_v62
  let main_v64 : IVec S1024x200x2 1 := noti main_v9
  let main_v65 : FVec F S1024x200x2 .f32 := uitofp .f32 main_v64
  let main_v66 : FVec F S1024x200x2 .f32 := Host.absf main_v3
  let main_cst_11 : FVec F S_ .f32 := constant S_ .f32 0x358637BD#32
  let main_v67 : FVec F S1024x200x2 .f32 := broadcastInDim S1024x200x2 ![] bcast_S_S1024x200x2 main_cst_11
  let main_v68 : FVec F S1024x200x2 .f32 := maximumf main_v66 main_v67
  let main_v69 : FVec F S1024x200x2 .f32 := Host.log main_v68
  let main_cst_12 : FVec F S_ .f32 := constant S_ .f32 0x00000000#32
  let main_v70 : FVec F S1024x200x2 .f32 := broadcastInDim S1024x200x2 ![] bcast_S_S1024x200x2 main_cst_12
  let main_v71 : IVec S1024x200x2 1 := cmpf .olt main_v3 main_v70
  let main_cst_13 : FVec F S_ .f32 := constant S_ .f32 0xBF800000#32
  let main_cst_14 : FVec F S_ .f32 := constant S_ .f32 0x3F800000#32
  let main_v72 : FVec F S1024x200x2 .f32 := fn_where_7 (F := F) main_v71 main_cst_13 main_cst_14
  let main_v73 : FVec F S1024x200x2 .f32 := Host.absf main_v65
  let main_cst_15 : FVec F S_ .f32 := constant S_ .f32 0x358637BD#32
  let main_v74 : FVec F S1024x200x2 .f32 := broadcastInDim S1024x200x2 ![] bcast_S_S1024x200x2 main_cst_15
  let main_v75 : FVec F S1024x200x2 .f32 := maximumf main_v73 main_v74
  let main_v76 : FVec F S1024x200x2 .f32 := Host.log main_v75
  let main_v77 : FVec F S1024x200x2 .f32 := fn_cumsum_2 (F := F) main_v76
  fn_part4 (F := F) main_arg2 main_arg3 main_arg4 main_arg5 main_v2 main_v41 main_v63 main_v69 main_v72 main_v77

def fn_part2 {F : FTy → Type} [FloatOps F] (main_arg2 : FVec F S5x64 .f32) (main_arg3 : FVec F S5x64 .f32) (main_arg4 : FVec F S512x256 .f32) (main_arg5 : FVec F S1024x200x512 .f32) (main_v2 : IVec S1024x200x2 32) (main_v3 : FVec F S1024x200x2 .f32) (main_v9 : IVec S1024x200x2 1) (main_v15 : FVec F S1024x200x2 .f32) (main_v19 : IVec S1024x200x2 32) (main_v24 : FVec F S1024x200x64 .f32) (main_v35 : FVec F S1024x200x32 .f32) (main_v36 : FVec F S1024x200x32 .f32) : IVec S1024x200x512 1 :=
  let main_v37 : FVec F S1024x200x32 .f32 := mulf main_v35 main_v36
  let main_v38 : FVec F S1024x200x32 .f32 := Host.sin main_v37
  let main_v39 : FVec F S1024x200x32 .f32 := Host.cos main_v37
  let main_v40 : FVec F S1024x200x64 .f32 := (fun a b => concatenate S1024x200x64 2 [⟨S1024x200x32, a⟩, ⟨S1024x200x32, b⟩] concatenates_S1024x200x32_S1024x200x32_S1024x200x64_d2) main_v38 main_v39
  let main_v41 : FVec F S1024x200x64 .f32 := addf main_v24 main_v40
  let main_v42 : IVec S1024x200x1 32 := (extractStridedSlice S1024x200x1 ![0, 0, 1] · slices_S1024x200x2_S1024x200x1_0_0_1) main_v19
  let main_v43 : IVec S1024x200 32 := shapeCast S1024x200 main_v42 shapeCasts_S1024x200x1_S1024x200
  let main_v44 : FVec F S1024x200x1 .f32 := (extractStridedSlice S1024x200x1 ![0, 0, 1] · slices_S1024x200x2_S1024x200x1_0_0_1) main_v15
  let main_v45 : FVec F S1024x200 .f32 := shapeCast S1024x200 main_v44 shapeCasts_S1024x200x1_S1024x200
  let main_v46 : FVec F S1024x200x64 .f32 := fn_take (F := F) main_arg3 main_v43
  let main_v47 : FVec F S1024x200x1 .f32 := broadcastInDim S1024x200x1 ![0, 1] bcast_S1024x200_S1024x200x1_0_1 main_v45
  let main_cst_9 : FVec F S_ .f32 := constant S_ .f32 0x461C4000#32
  let main_v48 : FVec F S_ .f32 := Host.log main_cst_9
  let main_v49 : FVec F S_ .f32 := Host.negf main_v48
  let main_v50 : FVec F S32 .f32 := sitofp .f32 (iotaInDim S32 32 0)
  let main_v51 : FVec F S32 .f32 := broadcastInDim S32 ![] bcast_S_S32 main_v49
  let main_v52 : FVec F S32 .f32 := mulf main_v51 main_v50
  let main_cst_10 : FVec F S_ .f32 := constant S_ .f32 0x42000000#32
  let main_v53 : FVec F S32 .f32 := broadcastInDim S32 ![] bcast_S_S32 main_cst_10
  let main_v54 : FVec F S32 .f32 := Host.divf main_v52 main_v53
  let main_v55 : FVec F S32 .f32 := Host.exp main_v54
  let main_v56 : FVec F S1x1x32 .f32 := broadcastInDim S1x1x32 ![2] bcast_S32_S1x1x32_2 main_v55
  let main_v57 : FVec F S1024x200x32 .f32 := broadcastInDim S1024x200x32 ![0, 1, 2] bcast_S1024x200x1_S1024x200x32_0_1_2 main_v47
  let main_v58 : FVec F S1024x200x32 .f32 := broadcastInDim S1024x200x32 ![0, 1, 2] bcast_S1x1x32_S1024x200x32_0_1_2 main_v56
  fn_part3 (F := F) main_arg2 main_arg3 main_arg4 main_arg5 main_v2 main_v3 main_v9 main_v41 main_v46 main_v57 main_v58

def fn_part1 {F : FTy → Type} [FloatOps F] (main_arg2 : FVec F S5x64 .f32) (main_arg3 : FVec F S5x64 .f32) (main_arg4 : FVec F S512x256 .f32) (main_arg5 : FVec F S1024x200x512 .f32) (main_v2 : IVec S1024x200x2 32) (main_v3 : FVec F S1024x200x2 .f32) (main_v9 : IVec S1024x200x2 1) (main_v13 : IVec S1024x200x2 1) (main_v15 : FVec F S1024x200x2 .f32) (main_c_5 : IVec S_ 32) : IVec S1024x200x512 1 :=
  let main_v16 : IVec S1024x200x2 32 := broadcastInDim S1024x200x2 ![] bcast_S_S1024x200x2 main_c_5
  let main_v17 : IVec S1024x200x2 1 := cmpi .eq main_v2 main_v16
  let main_v18 : IVec S1024x200x2 1 := andi main_v13 main_v17
  let main_c_6 : IVec S_ 32 := constantI S_ 32 1#32
  let main_v19 : IVec S1024x200x2 32 := fn_where_5 (F := F) main_v18 main_c_6 main_v2
  let main_v20 : IVec S1024x200x1 32 := (extractStridedSlice S1024x200x1 ![0, 0, 0] · slices_S1024x200x2_S1024x200x1_0_0_0) main_v19
  let main_v21 : IVec S1024x200 32 := shapeCast S1024x200 main_v20 shapeCasts_S1024x200x1_S1024x200
  let main_v22 : FVec F S1024x200x1 .f32 := (extractStridedSlice S1024x200x1 ![0, 0, 0] · slices_S1024x200x2_S1024x200x1_0_0_0) main_v15
  let main_v23 : FVec F S1024x200 .f32 := shapeCast S1024x200 main_v22 shapeCasts_S1024x200x1_S1024x200
  let main_v24 : FVec F S1024x200x64 .f32 := fn_take (F := F) main_arg2 main_v21
  let main_v25 : FVec F S1024x200x1 .f32 := broadcastInDim S1024x200x1 ![0, 1] bcast_S1024x200_S1024x200x1_0_1 main_v23
  let main_cst_7 : FVec F S_ .f32 := constant S_ .f32 0x461C4000#32
  let main_v26 : FVec F S_ .f32 := Host.log main_cst_7
  let main_v27 : FVec F S_ .f32 := Host.negf main_v26
  let main_v28 : FVec F S32 .f32 := sitofp .f32 (iotaInDim S32 32 0)
  let main_v29 : FVec F S32 .f32 := broadcastInDim S32 ![] bcast_S_S32 main_v27
  let main_v30 : FVec F S32 .f32 := mulf main_v29 main_v28
  let main_cst_8 : FVec F S_ .f32 := constant S_ .f32 0x42000000#32
  let main_v31 : FVec F S32 .f32 := broadcastInDim S32 ![] bcast_S_S32 main_cst_8
  let main_v32 : FVec F S32 .f32 := Host.divf main_v30 main_v31
  let main_v33 : FVec F S32 .f32 := Host.exp main_v32
  let main_v34 : FVec F S1x1x32 .f32 := broadcastInDim S1x1x32 ![2] bcast_S32_S1x1x32_2 main_v33
  let main_v35 : FVec F S1024x200x32 .f32 := broadcastInDim S1024x200x32 ![0, 1, 2] bcast_S1024x200x1_S1024x200x32_0_1_2 main_v25
  let main_v36 : FVec F S1024x200x32 .f32 := broadcastInDim S1024x200x32 ![0, 1, 2] bcast_S1x1x32_S1024x200x32_0_1_2 main_v34
  fn_part2 (F := F) main_arg2 main_arg3 main_arg4 main_arg5 main_v2 main_v3 main_v9 main_v15 main_v19 main_v24 main_v35 main_v36

def fn {F : FTy → Type} [FloatOps F] (main_arg0 : IVec S1024x200x2 32) (main_arg1 : FVec F S1024x200x2 .f32) (main_arg2 : FVec F S5x64 .f32) (main_arg3 : FVec F S5x64 .f32) (main_arg4 : FVec F S512x256 .f32) (main_arg5 : FVec F S1024x200x512 .f32) : IVec S1024x200x512 1 :=
  let main_c : IVec S_ 32 := constantI S_ 32 4#32
  let main_v0 : IVec S1024x200x2 32 := broadcastInDim S1024x200x2 ![] bcast_S_S1024x200x2 main_c
  let main_v1 : IVec S1024x200x2 1 := cmpi .sle main_arg0 main_v0
  let main_c_0 : IVec S_ 32 := constantI S_ 32 4#32
  let main_v2 : IVec S1024x200x2 32 := fn_where (F := F) main_v1 main_arg0 main_c_0
  let main_cst : FVec F S_ .f32 := constant S_ .f32 0x00000000#32
  let main_v3 : FVec F S1024x200x2 .f32 := fn_where_0 (F := F) main_v1 main_cst main_arg1
  let main_c_1 : IVec S_ 32 := constantI S_ 32 2#32
  let main_v4 : IVec S1024x200x2 32 := broadcastInDim S1024x200x2 ![] bcast_S_S1024x200x2 main_c_1
  let main_v5 : IVec S1024x200x2 1 := cmpi .ne main_v2 main_v4
  let main_v6 : IVec S1024x200x2 1 := andi main_v1 main_v5
  let main_c_2 : IVec S_ 32 := constantI S_ 32 3#32
  let main_v7 : IVec S1024x200x2 32 := broadcastInDim S1024x200x2 ![] bcast_S_S1024x200x2 main_c_2
  let main_v8 : IVec S1024x200x2 1 := cmpi .ne main_v2 main_v7
  let main_v9 : IVec S1024x200x2 1 := andi main_v6 main_v8
  let main_v10 : IVec S1024x200x2 32 := (extui 32 · natLt_1_32) main_v9
  let main_v11 : IVec S1024x200x2 32 := fn_cumsum (F := F) main_v10
  let main_c_3 : IVec S_ 32 := constantI S_ 32 0#32
  let main_v12 : IVec S1024x200x2 32 := broadcastInDim S1024x200x2 ![] bcast_S_S1024x200x2 main_c_3
  let main_v13 : IVec S1024x200x2 1 := cmpi .sgt main_v11 main_v12
  let main_v14 : FVec F S1024x200x2 .f32 := fn_cumsum_2 (F := F) main_v3
  let main_cst_4 : FVec F S_ .f32 := constant S_ .f32 0x00000000#32
  let main_v15 : FVec F S1024x200x2 .f32 := fn_where_4 (F := F) main_v13 main_cst_4 main_v14
  let main_c_5 : IVec S_ 32 := constantI S_ 32 4#32
  fn_part1 (F := F) main_arg2 main_arg3 main_arg4 main_arg5 main_v2 main_v3 main_v9 main_v13 main_v15 main_c_5
-- ==== Pre_inputs_finite.lean ====
abbrev S1024x200x2 : Shape := ⟨3, ![1024, 200, 2]⟩
abbrev S5x64 : Shape := ⟨2, ![5, 64]⟩
abbrev S512x256 : Shape := ⟨2, ![512, 256]⟩
abbrev S_ : Shape := ⟨0, ![]⟩

class Facts : Prop where
  bcast_S_S1024x200x2 : S_.BroadcastsInDim S1024x200x2 (![] : Fin 0 → Fin S1024x200x2.rank)
  bcast_S_S5x64 : S_.BroadcastsInDim S5x64 (![] : Fin 0 → Fin S5x64.rank)
  bcast_S_S512x256 : S_.BroadcastsInDim S512x256 (![] : Fin 0 → Fin S512x256.rank)

variable [Facts]

def fn {F : FTy → Type} [FloatOps F] (main_arg0 : IVec S1024x200x2 32) (main_arg1 : FVec F S1024x200x2 .f32) (main_arg2 : FVec F S5x64 .f32) (main_arg3 : FVec F S5x64 .f32) (main_arg4 : FVec F S512x256 .f32) : IVec S1024x200x2 1 × IVec S1024x200x2 1 × IVec S5x64 1 × IVec S5x64 1 × IVec S512x256 1 :=
  let main_c : IVec S_ 32 := constantI S_ 32 0#32
  let main_v0 : IVec S1024x200x2 32 := broadcastInDim S1024x200x2 ![] bcast_S_S1024x200x2 main_c
  let main_v1 : IVec S1024x200x2 1 := cmpi .sge main_arg0 main_v0
  let main_v2 : FVec F S1024x200x2 .f32 := Host.absf main_arg1
  let main_cst : FVec F S_ .f32 := constant S_ .f32 0x7F800000#32
  let main_v3 : FVec F S1024x200x2 .f32 := broadcastInDim S1024x200x2 ![] bcast_S_S1024x200x2 main_cst
  let main_v4 : IVec S1024x200x2 1 := cmpf .olt main_v2 main_v3
  let main_v5 : FVec F S5x64 .f32 := Host.absf main_arg2
  let main_cst_0 : FVec F S_ .f32 := constant S_ .f32 0x7F800000#32
  let main_v6 : FVec F S5x64 .f32 := broadcastInDim S5x64 ![] bcast_S_S5x64 main_cst_0
  let main_v7 : IVec S5x64 1 := cmpf .olt main_v5 main_v6
  let main_v8 : FVec F S5x64 .f32 := Host.absf main_arg3
  let main_cst_1 : FVec F S_ .f32 := constant S_ .f32 0x7F800000#32
  let main_v9 : FVec F S5x64 .f32 := broadcastInDim S5x64 ![] bcast_S_S5x64 main_cst_1
  let main_v10 : IVec S5x64 1 := cmpf .olt main_v8 main_v9
  let main_v11 : FVec F S512x256 .f32 := Host.absf main_arg4
  let main_cst_2 : FVec F S_ .f32 := constant S_ .f32 0x7F800000#32
  let main_v12 : FVec F S512x256 .f32 := broadcastInDim S512x256 ![] bcast_S_S512x256 main_cst_2
  let main_v13 : IVec S512x256 1 := cmpf .olt main_v11 main_v12
  (main_v1, main_v4, main_v7, main_v10, main_v13)
-- ==== Pre_tables_finite.lean ====
abbrev S1024x200x2 : Shape := ⟨3, ![1024, 200, 2]⟩
abbrev S5x64 : Shape := ⟨2, ![5, 64]⟩
abbrev S512x256 : Shape := ⟨2, ![512, 256]⟩
abbrev S_ : Shape := ⟨0, ![]⟩

class Facts : Prop where
  bcast_S_S1024x200x2 : S_.BroadcastsInDim S1024x200x2 (![] : Fin 0 → Fin S1024x200x2.rank)
  bcast_S_S5x64 : S_.BroadcastsInDim S5x64 (![] : Fin 0 → Fin S5x64.rank)
  bcast_S_S512x256 : S_.BroadcastsInDim S512x256 (![] : Fin 0 → Fin S512x256.rank)

variable [Facts]

def fn {F : FTy → Type} [FloatOps F] (main_arg0 : IVec S1024x200x2 32) (main_arg1 : FVec F S1024x200x2 .f32) (main_arg2 : FVec F S5x64 .f32) (main_arg3 : FVec F S5x64 .f32) (main_arg4 : FVec F S512x256 .f32) : IVec S1024x200x2 1 × IVec S5x64 1 × IVec S5x64 1 × IVec S512x256 1 :=
  let main_c : IVec S_ 32 := constantI S_ 32 0#32
  let main_v0 : IVec S1024x200x2 32 := broadcastInDim S1024x200x2 ![] bcast_S_S1024x200x2 main_c
  let main_v1 : IVec S1024x200x2 1 := cmpi .sge main_arg0 main_v0
  let main_v2 : FVec F S5x64 .f32 := Host.absf main_arg2
  let main_cst : FVec F S_ .f32 := constant S_ .f32 0x7F800000#32
  let main_v3 : FVec F S5x64 .f32 := broadcastInDim S5x64 ![] bcast_S_S5x64 main_cst
  let main_v4 : IVec S5x64 1 := cmpf .olt main_v2 main_v3
  let main_v5 : FVec F S5x64 .f32 := Host.absf main_arg3
  let main_cst_0 : FVec F S_ .f32 := constant S_ .f32 0x7F800000#32
  let main_v6 : FVec F S5x64 .f32 := broadcastInDim S5x64 ![] bcast_S_S5x64 main_cst_0
  let main_v7 : IVec S5x64 1 := cmpf .olt main_v5 main_v6
  let main_v8 : FVec F S512x256 .f32 := Host.absf main_arg4
  let main_cst_1 : FVec F S_ .f32 := constant S_ .f32 0x7F800000#32
  let main_v9 : FVec F S512x256 .f32 := broadcastInDim S512x256 ![] bcast_S_S512x256 main_cst_1
  let main_v10 : IVec S512x256 1 := cmpf .olt main_v8 main_v9
  (main_v1, main_v4, main_v7, main_v10)
-- ==== Kernel.lean ====
abbrev S1024x200x2 : Shape := ⟨3, ![1024, 200, 2]⟩
abbrev S5x64 : Shape := ⟨2, ![5, 64]⟩
abbrev S512x256 : Shape := ⟨2, ![512, 256]⟩
abbrev S1024x200x1 : Shape := ⟨3, ![1024, 200, 1]⟩
abbrev S1024x200 : Shape := ⟨2, ![1024, 200]⟩
abbrev S128x1600 : Shape := ⟨2, ![128, 1600]⟩
abbrev S256x512 : Shape := ⟨2, ![256, 512]⟩
abbrev S1024x200x512 : Shape := ⟨3, ![1024, 200, 512]⟩
abbrev S8x1600 : Shape := ⟨2, ![8, 1600]⟩
abbrev S64x200x512 : Shape := ⟨3, ![64, 200, 512]⟩
abbrev S8x1 : Shape := ⟨2, ![8, 1]⟩
abbrev S8x1599 : Shape := ⟨2, ![8, 1599]⟩
abbrev S8x2 : Shape := ⟨2, ![8, 2]⟩
abbrev S8x1598 : Shape := ⟨2, ![8, 1598]⟩
abbrev S8x4 : Shape := ⟨2, ![8, 4]⟩
abbrev S8x1596 : Shape := ⟨2, ![8, 1596]⟩
abbrev S8x8 : Shape := ⟨2, ![8, 8]⟩
abbrev S8x1592 : Shape := ⟨2, ![8, 1592]⟩
abbrev S8x16 : Shape := ⟨2, ![8, 16]⟩
abbrev S8x1584 : Shape := ⟨2, ![8, 1584]⟩
abbrev S8x32 : Shape := ⟨2, ![8, 32]⟩
abbrev S8x1568 : Shape := ⟨2, ![8, 1568]⟩
abbrev S8x64 : Shape := ⟨2, ![8, 64]⟩
abbrev S8x1536 : Shape := ⟨2, ![8, 1536]⟩
abbrev S8x128 : Shape := ⟨2, ![8, 128]⟩
abbrev S8x1472 : Shape := ⟨2, ![8, 1472]⟩
abbrev S32x1 : Shape := ⟨2, ![32, 1]⟩
abbrev S5x1 : Shape := ⟨2, ![5, 1]⟩
abbrev S64x512 : Shape := ⟨2, ![64, 512]⟩
abbrev S5x512 : Shape := ⟨2, ![5, 512]⟩
abbrev S20x512 : Shape := ⟨2, ![20, 512]⟩
abbrev S276x512 : Shape := ⟨2, ![276, 512]⟩
abbrev S1x1600 : Shape := ⟨2, ![1, 1600]⟩
abbrev S32x1600 : Shape := ⟨2, ![32, 1600]⟩
abbrev S5x1600 : Shape := ⟨2, ![5, 1600]⟩
abbrev S276x1600 : Shape := ⟨2, ![276, 1600]⟩
abbrev S1600x512 : Shape := ⟨2, ![1600, 512]⟩
abbrev S8x200x512 : Shape := ⟨3, ![8, 200, 512]⟩

abbrev nBuf : Space → Nat
  | .hbm => 19
  | .vmem => 13
  | .smem => 0
  | _ => 0

abbrev bufTy : (tb : Table) → Fin (tcTables nBuf tb) → BufTy
  | .hbm, ⟨0, _⟩ => ⟨S1024x200x2, .i32⟩
  | .hbm, ⟨1, _⟩ => ⟨S1024x200x2, .f32⟩
  | .hbm, ⟨2, _⟩ => ⟨S5x64, .f32⟩
  | .hbm, ⟨3, _⟩ => ⟨S5x64, .f32⟩
  | .hbm, ⟨4, _⟩ => ⟨S512x256, .f32⟩
  | .hbm, ⟨5, _⟩ => ⟨S1024x200x1, .i32⟩
  | .hbm, ⟨6, _⟩ => ⟨S1024x200, .i32⟩
  | .hbm, ⟨7, _⟩ => ⟨S128x1600, .i32⟩
  | .hbm, ⟨8, _⟩ => ⟨S1024x200x1, .i32⟩
  | .hbm, ⟨9, _⟩ => ⟨S1024x200, .i32⟩
  | .hbm, ⟨10, _⟩ => ⟨S128x1600, .i32⟩
  | .hbm, ⟨11, _⟩ => ⟨S1024x200x1, .f32⟩
  | .hbm, ⟨12, _⟩ => ⟨S1024x200, .f32⟩
  | .hbm, ⟨13, _⟩ => ⟨S128x1600, .f32⟩
  | .hbm, ⟨14, _⟩ => ⟨S1024x200x1, .f32⟩
  | .hbm, ⟨15, _⟩ => ⟨S1024x200, .f32⟩
  | .hbm, ⟨16, _⟩ => ⟨S128x1600, .f32⟩
  | .hbm, ⟨17, _⟩ => ⟨S256x512, .f32⟩
  | .hbm, ⟨18, _⟩ => ⟨S1024x200x512, .f32⟩
  | .local _ .vmem, ⟨0, _⟩ => ⟨S8x1600, .i32⟩
  | .local _ .vmem, ⟨1, _⟩ => ⟨S8x1600, .i32⟩
  | .local _ .vmem, ⟨2, _⟩ => ⟨S8x1600, .i32⟩
  | .local _ .vmem, ⟨3, _⟩ => ⟨S8x1600, .i32⟩
  | .local _ .vmem, ⟨4, _⟩ => ⟨S8x1600, .f32⟩
  | .local _ .vmem, ⟨5, _⟩ => ⟨S8x1600, .f32⟩
  | .local _ .vmem, ⟨6, _⟩ => ⟨S8x1600, .f32⟩
  | .local _ .vmem, ⟨7, _⟩ => ⟨S8x1600, .f32⟩
  | .local _ .vmem, ⟨8, _⟩ => ⟨S5x64, .f32⟩
  | .local _ .vmem, ⟨9, _⟩ => ⟨S5x64, .f32⟩
  | .local _ .vmem, ⟨10, _⟩ => ⟨S256x512, .f32⟩
  | .local _ .vmem, ⟨11, _⟩ => ⟨S64x200x512, .f32⟩
  | .local _ .vmem, ⟨12, _⟩ => ⟨S64x200x512, .f32⟩
  | _, _ => ⟨S1024x200x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1600 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1600 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x200x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_two_pi" => some (((2 * Real.pi)⁻¹ : ℝ) : EReal)
  | _ => none
-- ==== ReferenceIdeal.lean ====
abbrev S1024x200x2 : Shape := ⟨3, ![1024, 200, 2]⟩
abbrev S5x64 : Shape := ⟨2, ![5, 64]⟩
abbrev S512x256 : Shape := ⟨2, ![512, 256]⟩
abbrev S_ : Shape := ⟨0, ![]⟩
abbrev S1024x200x1 : Shape := ⟨3, ![1024, 200, 1]⟩
abbrev S1024x200 : Shape := ⟨2, ![1024, 200]⟩
abbrev S1 : Shape := ⟨1, ![1]⟩
abbrev S1x1x1 : Shape := ⟨3, ![1, 1, 1]⟩
abbrev S1024x200x64 : Shape := ⟨3, ![1024, 200, 64]⟩
abbrev S32 : Shape := ⟨1, ![32]⟩
abbrev S1x1x32 : Shape := ⟨3, ![1, 1, 32]⟩
abbrev S1024x200x32 : Shape := ⟨3, ![1024, 200, 32]⟩
abbrev S1024x1x200x2 : Shape := ⟨4, ![1024, 1, 200, 2]⟩
abbrev S1024x200x1x2 : Shape := ⟨4, ![1024, 200, 1, 2]⟩
abbrev S1024x200x200x2 : Shape := ⟨4, ![1024, 200, 200, 2]⟩
abbrev S1x200x200x1 : Shape := ⟨4, ![1, 200, 200, 1]⟩
abbrev S1024x200x256 : Shape := ⟨3, ![1024, 200, 256]⟩
abbrev S256x512 : Shape := ⟨2, ![256, 512]⟩
abbrev S1024x200x512 : Shape := ⟨3, ![1024, 200, 512]⟩

abbrev nBuf : Space → Nat
  | .hbm => 426
  | .vmem => 0
  | .smem => 0
  | _ => 0

abbrev hbmTy0_0 (i : Nat) : BufTy := match i % 128 with
  | 0 => ⟨S1024x200x2, .i32⟩
  | 1 => ⟨S1024x200x2, .f32⟩
  | 2 => ⟨S5x64, .f32⟩
  | 3 => ⟨S5x64, .f32⟩
  | 4 => ⟨S512x256, .f32⟩
  | 5 => ⟨S_, .i32⟩
  | 6 => ⟨S1024x200x2, .i32⟩
  | 7 => ⟨S1024x200x2, .i1⟩
  | 8 => ⟨S_, .i32⟩
  | 9 => ⟨S_, .i32⟩
  | 10 => ⟨S1024x200x2, .i32⟩
  | 11 => ⟨S1024x200x2, .i32⟩
  | 12 => ⟨S_, .f32⟩
  | 13 => ⟨S1024x200x2, .f32⟩
  | 14 => ⟨S1024x200x2, .f32⟩
  | 15 => ⟨S_, .i32⟩
  | 16 => ⟨S1024x200x2, .i32⟩
  | 17 => ⟨S1024x200x2, .i1⟩
  | 18 => ⟨S1024x200x2, .i1⟩
  | 19 => ⟨S_, .i32⟩
  | 20 => ⟨S1024x200x2, .i32⟩
  | 21 => ⟨S1024x200x2, .i1⟩
  | 22 => ⟨S1024x200x2, .i1⟩
  | 23 => ⟨S1024x200x2, .i32⟩
  | 24 => ⟨S_, .i32⟩
  | 25 => ⟨S_, .i32⟩
  | 26 => ⟨S1024x200x2, .i32⟩
  | 27 => ⟨S_, .i32⟩
  | 28 => ⟨S1024x200x2, .i32⟩
  | 29 => ⟨S1024x200x2, .i1⟩
  | 30 => ⟨S_, .f32⟩
  | 31 => ⟨S_, .f32⟩
  | 32 => ⟨S1024x200x2, .f32⟩
  | 33 => ⟨S_, .f32⟩
  | 34 => ⟨S1024x200x2, .f32⟩
  | 35 => ⟨S1024x200x2, .f32⟩
  | 36 => ⟨S_, .i32⟩
  | 37 => ⟨S1024x200x2, .i32⟩
  | 38 => ⟨S1024x200x2, .i1⟩
  | 39 => ⟨S1024x200x2, .i1⟩
  | 40 => ⟨S_, .i32⟩
  | 41 => ⟨S_, .i32⟩
  | 42 => ⟨S1024x200x2, .i32⟩
  | 43 => ⟨S1024x200x2, .i32⟩
  | 44 => ⟨S1024x200x1, .i32⟩
  | 45 => ⟨S1024x200, .i32⟩
  | 46 => ⟨S1024x200x1, .f32⟩
  | 47 => ⟨S1024x200, .f32⟩
  | 48 => ⟨S_, .i32⟩
  | 49 => ⟨S1024x200, .i32⟩
  | 50 => ⟨S1024x200, .i1⟩
  | 51 => ⟨S_, .i32⟩
  | 52 => ⟨S1024x200, .i32⟩
  | 53 => ⟨S1024x200, .i32⟩
  | 54 => ⟨S1024x200, .i32⟩
  | 55 => ⟨S1024x200x1, .i32⟩
  | 56 => ⟨S1, .i32⟩
  | 57 => ⟨S_, .i32⟩
  | 58 => ⟨S1024x200x1, .i32⟩
  | 59 => ⟨S1024x200x1, .i1⟩
  | 60 => ⟨S1x1x1, .i32⟩
  | 61 => ⟨S1024x200x1, .i32⟩
  | 62 => ⟨S1024x200x1, .i1⟩
  | 63 => ⟨S1024x200x1, .i1⟩
  | 64 => ⟨S_, .i1⟩
  | 65 => ⟨S1024x200, .i1⟩
  | 66 => ⟨S1024x200x64, .f32⟩
  | 67 => ⟨S1024x200x64, .i1⟩
  | 68 => ⟨S_, .f32⟩
  | 69 => ⟨S1024x200x64, .f32⟩
  | 70 => ⟨S1024x200x64, .f32⟩
  | 71 => ⟨S1024x200x1, .f32⟩
  | 72 => ⟨S_, .f32⟩
  | 73 => ⟨S_, .f32⟩
  | 74 => ⟨S_, .f32⟩
  | 75 => ⟨S32, .f32⟩
  | 76 => ⟨S32, .f32⟩
  | 77 => ⟨S32, .f32⟩
  | 78 => ⟨S_, .f32⟩
  | 79 => ⟨S32, .f32⟩
  | 80 => ⟨S32, .f32⟩
  | 81 => ⟨S32, .f32⟩
  | 82 => ⟨S1x1x32, .f32⟩
  | 83 => ⟨S1024x200x32, .f32⟩
  | 84 => ⟨S1024x200x32, .f32⟩
  | 85 => ⟨S1024x200x32, .f32⟩
  | 86 => ⟨S_, .f32⟩
  | 87 => ⟨S_, .f32⟩
  | 88 => ⟨S_, .f32⟩
  | 89 => ⟨S_, .f32⟩
  | 90 => ⟨S1024x200x32, .f32⟩
  | 91 => ⟨S1024x200x32, .f32⟩
  | 92 => ⟨S1024x200x32, .f32⟩
  | 93 => ⟨S1024x200x32, .f32⟩
  | 94 => ⟨S1024x200x32, .f32⟩
  | 95 => ⟨S_, .f32⟩
  | 96 => ⟨S1024x200x32, .f32⟩
  | 97 => ⟨S1024x200x32, .f32⟩
  | 98 => ⟨S_, .f32⟩
  | 99 => ⟨S1024x200x32, .f32⟩
  | 100 => ⟨S1024x200x32, .f32⟩
  | 101 => ⟨S1024x200x32, .f32⟩
  | 102 => ⟨S_, .f32⟩
  | 103 => ⟨S1024x200x32, .f32⟩
  | 104 => ⟨S1024x200x32, .f32⟩
  | 105 => ⟨S1024x200x32, .f32⟩
  | 106 => ⟨S_, .f32⟩
  | 107 => ⟨S1024x200x32, .f32⟩
  | 108 => ⟨S1024x200x32, .f32⟩
  | 109 => ⟨S1024x200x32, .f32⟩
  | 110 => ⟨S_, .f32⟩
  | 111 => ⟨S1024x200x32, .f32⟩
  | 112 => ⟨S1024x200x32, .f32⟩
  | 113 => ⟨S_, .f32⟩
  | 114 => ⟨S1024x200x32, .f32⟩
  | 115 => ⟨S1024x200x32, .f32⟩
  | 116 => ⟨S1024x200x32, .f32⟩
  | 117 => ⟨S_, .f32⟩
  | 118 => ⟨S1024x200x32, .f32⟩
  | 119 => ⟨S1024x200x32, .f32⟩
  | 120 => ⟨S1024x200x32, .f32⟩
  | 121 => ⟨S_, .f32⟩
  | 122 => ⟨S1024x200x32, .f32⟩
  | 123 => ⟨S1024x200x32, .f32⟩
  | 124 => ⟨S1024x200x64, .f32⟩
  | 125 => ⟨S1024x200x64, .f32⟩
  | 126 => ⟨S1024x200x1, .i32⟩
  | 127 => ⟨S1024x200, .i32⟩
  | _ => ⟨S1024x200x2, .i32⟩

abbrev hbmTy0_1 (i : Nat) : BufTy := match i % 128 with
  | 0 => ⟨S1024x200x1, .f32⟩
  | 1 => ⟨S1024x200, .f32⟩
  | 2 => ⟨S_, .i32⟩
  | 3 => ⟨S1024x200, .i32⟩
  | 4 => ⟨S1024x200, .i1⟩
  | 5 => ⟨S_, .i32⟩
  | 6 => ⟨S1024x200, .i32⟩
  | 7 => ⟨S1024x200, .i32⟩
  | 8 => ⟨S1024x200, .i32⟩
  | 9 => ⟨S1024x200x1, .i32⟩
  | 10 => ⟨S1, .i32⟩
  | 11 => ⟨S_, .i32⟩
  | 12 => ⟨S1024x200x1, .i32⟩
  | 13 => ⟨S1024x200x1, .i1⟩
  | 14 => ⟨S1x1x1, .i32⟩
  | 15 => ⟨S1024x200x1, .i32⟩
  | 16 => ⟨S1024x200x1, .i1⟩
  | 17 => ⟨S1024x200x1, .i1⟩
  | 18 => ⟨S_, .i1⟩
  | 19 => ⟨S1024x200, .i1⟩
  | 20 => ⟨S1024x200x64, .f32⟩
  | 21 => ⟨S1024x200x64, .i1⟩
  | 22 => ⟨S_, .f32⟩
  | 23 => ⟨S1024x200x64, .f32⟩
  | 24 => ⟨S1024x200x64, .f32⟩
  | 25 => ⟨S1024x200x1, .f32⟩
  | 26 => ⟨S_, .f32⟩
  | 27 => ⟨S_, .f32⟩
  | 28 => ⟨S_, .f32⟩
  | 29 => ⟨S32, .f32⟩
  | 30 => ⟨S32, .f32⟩
  | 31 => ⟨S32, .f32⟩
  | 32 => ⟨S_, .f32⟩
  | 33 => ⟨S32, .f32⟩
  | 34 => ⟨S32, .f32⟩
  | 35 => ⟨S32, .f32⟩
  | 36 => ⟨S1x1x32, .f32⟩
  | 37 => ⟨S1024x200x32, .f32⟩
  | 38 => ⟨S1024x200x32, .f32⟩
  | 39 => ⟨S1024x200x32, .f32⟩
  | 40 => ⟨S_, .f32⟩
  | 41 => ⟨S_, .f32⟩
  | 42 => ⟨S_, .f32⟩
  | 43 => ⟨S_, .f32⟩
  | 44 => ⟨S1024x200x32, .f32⟩
  | 45 => ⟨S1024x200x32, .f32⟩
  | 46 => ⟨S1024x200x32, .f32⟩
  | 47 => ⟨S1024x200x32, .f32⟩
  | 48 => ⟨S1024x200x32, .f32⟩
  | 49 => ⟨S_, .f32⟩
  | 50 => ⟨S1024x200x32, .f32⟩
  | 51 => ⟨S1024x200x32, .f32⟩
  | 52 => ⟨S_, .f32⟩
  | 53 => ⟨S1024x200x32, .f32⟩
  | 54 => ⟨S1024x200x32, .f32⟩
  | 55 => ⟨S1024x200x32, .f32⟩
  | 56 => ⟨S_, .f32⟩
  | 57 => ⟨S1024x200x32, .f32⟩
  | 58 => ⟨S1024x200x32, .f32⟩
  | 59 => ⟨S1024x200x32, .f32⟩
  | 60 => ⟨S_, .f32⟩
  | 61 => ⟨S1024x200x32, .f32⟩
  | 62 => ⟨S1024x200x32, .f32⟩
  | 63 => ⟨S1024x200x32, .f32⟩
  | 64 => ⟨S_, .f32⟩
  | 65 => ⟨S1024x200x32, .f32⟩
  | 66 => ⟨S1024x200x32, .f32⟩
  | 67 => ⟨S_, .f32⟩
  | 68 => ⟨S1024x200x32, .f32⟩
  | 69 => ⟨S1024x200x32, .f32⟩
  | 70 => ⟨S1024x200x32, .f32⟩
  | 71 => ⟨S_, .f32⟩
  | 72 => ⟨S1024x200x32, .f32⟩
  | 73 => ⟨S1024x200x32, .f32⟩
  | 74 => ⟨S1024x200x32, .f32⟩
  | 75 => ⟨S_, .f32⟩
  | 76 => ⟨S1024x200x32, .f32⟩
  | 77 => ⟨S1024x200x32, .f32⟩
  | 78 => ⟨S1024x200x64, .f32⟩
  | 79 => ⟨S1024x200x64, .f32⟩
  | 80 => ⟨S1024x200x2, .i1⟩
  | 81 => ⟨S1024x200x2, .f32⟩
  | 82 => ⟨S1024x200x2, .f32⟩
  | 83 => ⟨S_, .f32⟩
  | 84 => ⟨S1024x200x2, .f32⟩
  | 85 => ⟨S1024x200x2, .f32⟩
  | 86 => ⟨S1024x200x2, .f32⟩
  | 87 => ⟨S_, .f32⟩
  | 88 => ⟨S1024x200x2, .f32⟩
  | 89 => ⟨S1024x200x2, .i1⟩
  | 90 => ⟨S_, .f32⟩
  | 91 => ⟨S_, .f32⟩
  | 92 => ⟨S1024x200x2, .f32⟩
  | 93 => ⟨S1024x200x2, .f32⟩
  | 94 => ⟨S1024x200x2, .f32⟩
  | 95 => ⟨S1024x200x2, .f32⟩
  | 96 => ⟨S_, .f32⟩
  | 97 => ⟨S1024x200x2, .f32⟩
  | 98 => ⟨S1024x200x2, .f32⟩
  | 99 => ⟨S1024x200x2, .f32⟩
  | 100 => ⟨S_, .f32⟩
  | 101 => ⟨S_, .f32⟩
  | 102 => ⟨S1024x200x2, .f32⟩
  | 103 => ⟨S1024x1x200x2, .f32⟩
  | 104 => ⟨S1024x1x200x2, .f32⟩
  | 105 => ⟨S1024x200x1x2, .f32⟩
  | 106 => ⟨S1024x1x200x2, .f32⟩
  | 107 => ⟨S1024x200x200x2, .f32⟩
  | 108 => ⟨S1024x200x200x2, .f32⟩
  | 109 => ⟨S1024x200x200x2, .f32⟩
  | 110 => ⟨S1024x200x200x2, .f32⟩
  | 111 => ⟨S1024x200x200x2, .f32⟩
  | 112 => ⟨S1024x200x200x2, .f32⟩
  | 113 => ⟨S1024x200x200x2, .f32⟩
  | 114 => ⟨S1024x200x200x2, .f32⟩
  | 115 => ⟨S1x200x200x1, .i32⟩
  | 116 => ⟨S1x200x200x1, .i32⟩
  | 117 => ⟨S1x200x200x1, .i1⟩
  | 118 => ⟨S_, .f32⟩
  | 119 => ⟨S1024x200x200x2, .i1⟩
  | 120 => ⟨S1024x200x200x2, .f32⟩
  | 121 => ⟨S1024x200x200x2, .f32⟩
  | 122 => ⟨S_, .f32⟩
  | 123 => ⟨S1024x200x2, .f32⟩
  | 124 => ⟨S_, .f32⟩
  | 125 => ⟨S1024x200x2, .f32⟩
  | 126 => ⟨S1024x200x2, .f32⟩
  | 127 => ⟨S1024x200x2, .f32⟩
  | _ => ⟨S1024x200x2, .i32⟩

abbrev hbmTy0_2 (i : Nat) : BufTy := match i % 128 with
  | 0 => ⟨S_, .f32⟩
  | 1 => ⟨S1024x200x2, .f32⟩
  | 2 => ⟨S1024x200x2, .f32⟩
  | 3 => ⟨S1024x200x1, .i32⟩
  | 4 => ⟨S1024x200, .i32⟩
  | 5 => ⟨S1024x200x1, .f32⟩
  | 6 => ⟨S1024x200, .f32⟩
  | 7 => ⟨S_, .i32⟩
  | 8 => ⟨S1024x200, .i32⟩
  | 9 => ⟨S1024x200, .i1⟩
  | 10 => ⟨S_, .i32⟩
  | 11 => ⟨S1024x200, .i32⟩
  | 12 => ⟨S1024x200, .i32⟩
  | 13 => ⟨S1024x200, .i32⟩
  | 14 => ⟨S1024x200x1, .i32⟩
  | 15 => ⟨S1, .i32⟩
  | 16 => ⟨S_, .i32⟩
  | 17 => ⟨S1024x200x1, .i32⟩
  | 18 => ⟨S1024x200x1, .i1⟩
  | 19 => ⟨S1x1x1, .i32⟩
  | 20 => ⟨S1024x200x1, .i32⟩
  | 21 => ⟨S1024x200x1, .i1⟩
  | 22 => ⟨S1024x200x1, .i1⟩
  | 23 => ⟨S_, .i1⟩
  | 24 => ⟨S1024x200, .i1⟩
  | 25 => ⟨S1024x200x64, .f32⟩
  | 26 => ⟨S1024x200x64, .i1⟩
  | 27 => ⟨S_, .f32⟩
  | 28 => ⟨S1024x200x64, .f32⟩
  | 29 => ⟨S1024x200x64, .f32⟩
  | 30 => ⟨S1024x200x1, .f32⟩
  | 31 => ⟨S_, .f32⟩
  | 32 => ⟨S_, .f32⟩
  | 33 => ⟨S_, .f32⟩
  | 34 => ⟨S32, .f32⟩
  | 35 => ⟨S32, .f32⟩
  | 36 => ⟨S32, .f32⟩
  | 37 => ⟨S_, .f32⟩
  | 38 => ⟨S32, .f32⟩
  | 39 => ⟨S32, .f32⟩
  | 40 => ⟨S32, .f32⟩
  | 41 => ⟨S1x1x32, .f32⟩
  | 42 => ⟨S1024x200x32, .f32⟩
  | 43 => ⟨S1024x200x32, .f32⟩
  | 44 => ⟨S1024x200x32, .f32⟩
  | 45 => ⟨S_, .f32⟩
  | 46 => ⟨S_, .f32⟩
  | 47 => ⟨S_, .f32⟩
  | 48 => ⟨S_, .f32⟩
  | 49 => ⟨S1024x200x32, .f32⟩
  | 50 => ⟨S1024x200x32, .f32⟩
  | 51 => ⟨S1024x200x32, .f32⟩
  | 52 => ⟨S1024x200x32, .f32⟩
  | 53 => ⟨S1024x200x32, .f32⟩
  | 54 => ⟨S_, .f32⟩
  | 55 => ⟨S1024x200x32, .f32⟩
  | 56 => ⟨S1024x200x32, .f32⟩
  | 57 => ⟨S_, .f32⟩
  | 58 => ⟨S1024x200x32, .f32⟩
  | 59 => ⟨S1024x200x32, .f32⟩
  | 60 => ⟨S1024x200x32, .f32⟩
  | 61 => ⟨S_, .f32⟩
  | 62 => ⟨S1024x200x32, .f32⟩
  | 63 => ⟨S1024x200x32, .f32⟩
  | 64 => ⟨S1024x200x32, .f32⟩
  | 65 => ⟨S_, .f32⟩
  | 66 => ⟨S1024x200x32, .f32⟩
  | 67 => ⟨S1024x200x32, .f32⟩
  | 68 => ⟨S1024x200x32, .f32⟩
  | 69 => ⟨S_, .f32⟩
  | 70 => ⟨S1024x200x32, .f32⟩
  | 71 => ⟨S1024x200x32, .f32⟩
  | 72 => ⟨S_, .f32⟩
  | 73 => ⟨S1024x200x32, .f32⟩
  | 74 => ⟨S1024x200x32, .f32⟩
  | 75 => ⟨S1024x200x32, .f32⟩
  | 76 => ⟨S_, .f32⟩
  | 77 => ⟨S1024x200x32, .f32⟩
  | 78 => ⟨S1024x200x32, .f32⟩
  | 79 => ⟨S1024x200x32, .f32⟩
  | 80 => ⟨S_, .f32⟩
  | 81 => ⟨S1024x200x32, .f32⟩
  | 82 => ⟨S1024x200x32, .f32⟩
  | 83 => ⟨S1024x200x64, .f32⟩
  | 84 => ⟨S1024x200x64, .f32⟩
  | 85 => ⟨S1024x200x1, .i32⟩
  | 86 => ⟨S1024x200, .i32⟩
  | 87 => ⟨S1024x200x1, .f32⟩
  | 88 => ⟨S1024x200, .f32⟩
  | 89 => ⟨S_, .i32⟩
  | 90 => ⟨S1024x200, .i32⟩
  | 91 => ⟨S1024x200, .i1⟩
  | 92 => ⟨S_, .i32⟩
  | 93 => ⟨S1024x200, .i32⟩
  | 94 => ⟨S1024x200, .i32⟩
  | 95 => ⟨S1024x200, .i32⟩
  | 96 => ⟨S1024x200x1, .i32⟩
  | 97 => ⟨S1, .i32⟩
  | 98 => ⟨S_, .i32⟩
  | 99 => ⟨S1024x200x1, .i32⟩
  | 100 => ⟨S1024x200x1, .i1⟩
  | 101 => ⟨S1x1x1, .i32⟩
  | 102 => ⟨S1024x200x1, .i32⟩
  | 103 => ⟨S1024x200x1, .i1⟩
  | 104 => ⟨S1024x200x1, .i1⟩
  | 105 => ⟨S_, .i1⟩
  | 106 => ⟨S1024x200, .i1⟩
  | 107 => ⟨S1024x200x64, .f32⟩
  | 108 => ⟨S1024x200x64, .i1⟩
  | 109 => ⟨S_, .f32⟩
  | 110 => ⟨S1024x200x64, .f32⟩
  | 111 => ⟨S1024x200x64, .f32⟩
  | 112 => ⟨S1024x200x1, .f32⟩
  | 113 => ⟨S_, .f32⟩
  | 114 => ⟨S_, .f32⟩
  | 115 => ⟨S_, .f32⟩
  | 116 => ⟨S32, .f32⟩
  | 117 => ⟨S32, .f32⟩
  | 118 => ⟨S32, .f32⟩
  | 119 => ⟨S_, .f32⟩
  | 120 => ⟨S32, .f32⟩
  | 121 => ⟨S32, .f32⟩
  | 122 => ⟨S32, .f32⟩
  | 123 => ⟨S1x1x32, .f32⟩
  | 124 => ⟨S1024x200x32, .f32⟩
  | 125 => ⟨S1024x200x32, .f32⟩
  | 126 => ⟨S1024x200x32, .f32⟩
  | 127 => ⟨S_, .f32⟩
  | _ => ⟨S1024x200x2, .i32⟩

abbrev hbmTy0_3 (i : Nat) : BufTy := match i % 128 with
  | 0 => ⟨S_, .f32⟩
  | 1 => ⟨S_, .f32⟩
  | 2 => ⟨S_, .f32⟩
  | 3 => ⟨S1024x200x32, .f32⟩
  | 4 => ⟨S1024x200x32, .f32⟩
  | 5 => ⟨S1024x200x32, .f32⟩
  | 6 => ⟨S1024x200x32, .f32⟩
  | 7 => ⟨S1024x200x32, .f32⟩
  | 8 => ⟨S_, .f32⟩
  | 9 => ⟨S1024x200x32, .f32⟩
  | 10 => ⟨S1024x200x32, .f32⟩
  | 11 => ⟨S_, .f32⟩
  | 12 => ⟨S1024x200x32, .f32⟩
  | 13 => ⟨S1024x200x32, .f32⟩
  | 14 => ⟨S1024x200x32, .f32⟩
  | 15 => ⟨S_, .f32⟩
  | 16 => ⟨S1024x200x32, .f32⟩
  | 17 => ⟨S1024x200x32, .f32⟩
  | 18 => ⟨S1024x200x32, .f32⟩
  | 19 => ⟨S_, .f32⟩
  | 20 => ⟨S1024x200x32, .f32⟩
  | 21 => ⟨S1024x200x32, .f32⟩
  | 22 => ⟨S1024x200x32, .f32⟩
  | 23 => ⟨S_, .f32⟩
  | 24 => ⟨S1024x200x32, .f32⟩
  | 25 => ⟨S1024x200x32, .f32⟩
  | 26 => ⟨S_, .f32⟩
  | 27 => ⟨S1024x200x32, .f32⟩
  | 28 => ⟨S1024x200x32, .f32⟩
  | 29 => ⟨S1024x200x32, .f32⟩
  | 30 => ⟨S_, .f32⟩
  | 31 => ⟨S1024x200x32, .f32⟩
  | 32 => ⟨S1024x200x32, .f32⟩
  | 33 => ⟨S1024x200x32, .f32⟩
  | 34 => ⟨S_, .f32⟩
  | 35 => ⟨S1024x200x32, .f32⟩
  | 36 => ⟨S1024x200x32, .f32⟩
  | 37 => ⟨S1024x200x64, .f32⟩
  | 38 => ⟨S1024x200x64, .f32⟩
  | 39 => ⟨S1024x200x256, .f32⟩
  | 40 => ⟨S256x512, .f32⟩
  | 41 => ⟨S1024x200x512, .f32⟩
  | _ => ⟨S1024x200x2, .i32⟩

abbrev hbmTy (i : Nat) : BufTy := match i / 128 with
  | 0 => hbmTy0_0 i
  | 1 => hbmTy0_1 i
  | 2 => hbmTy0_2 i
  | 3 => hbmTy0_3 i
  | _ => ⟨S1024x200x2, .i32⟩

abbrev bufTy : (tb : Table) → Fin (tcTables nBuf tb) → BufTy
  | .hbm, ⟨i, _⟩ => hbmTy i
  | _, _ => ⟨S1024x200x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_cst : Ref sig .tc := ⟨.hbm, 12, rfl⟩
abbrev main_call1_v0 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call2_call0_c : Ref sig .tc := ⟨.hbm, 24, rfl⟩
abbrev main_call2_call0_v0 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_call3_call0_cst : Ref sig .tc := ⟨.hbm, 30, rfl⟩
abbrev main_call3_call0_v0 : Ref sig .tc := ⟨.hbm, 31, rfl⟩
abbrev main_v14 : Ref sig .tc := ⟨.hbm, 32, rfl⟩
abbrev main_cst_4 : Ref sig .tc := ⟨.hbm, 33, rfl⟩
abbrev main_call4_v0 : Ref sig .tc := ⟨.hbm, 34, rfl⟩
abbrev main_v15 : Ref sig .tc := ⟨.hbm, 35, rfl⟩
abbrev main_c_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_6 : Ref sig .tc := ⟨.hbm, 40, rfl⟩
abbrev main_call5_v0 : Ref sig .tc := ⟨.hbm, 41, rfl⟩
abbrev main_call5_v1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call6_c : Ref sig .tc := ⟨.hbm, 48, rfl⟩
abbrev main_call6_v0 : Ref sig .tc := ⟨.hbm, 49, rfl⟩
abbrev main_call6_v1 : Ref sig .tc := ⟨.hbm, 50, rfl⟩
abbrev main_call6_c_0 : Ref sig .tc := ⟨.hbm, 51, rfl⟩
abbrev main_call6_v2 : Ref sig .tc := ⟨.hbm, 52, rfl⟩
abbrev main_call6_v3 : Ref sig .tc := ⟨.hbm, 53, rfl⟩
abbrev main_call6_v4 : Ref sig .tc := ⟨.hbm, 54, rfl⟩
abbrev main_call6_v5 : Ref sig .tc := ⟨.hbm, 55, rfl⟩
abbrev main_call6_c_1 : Ref sig .tc := ⟨.hbm, 56, rfl⟩
abbrev main_call6_c_2 : Ref sig .tc := ⟨.hbm, 57, rfl⟩
abbrev main_call6_v6 : Ref sig .tc := ⟨.hbm, 58, rfl⟩
abbrev main_call6_v7 : Ref sig .tc := ⟨.hbm, 59, rfl⟩
abbrev main_call6_v8 : Ref sig .tc := ⟨.hbm, 60, rfl⟩
abbrev main_call6_v9 : Ref sig .tc := ⟨.hbm, 61, rfl⟩
abbrev main_call6_v10 : Ref sig .tc := ⟨.hbm, 62, rfl⟩
abbrev main_call6_v11 : Ref sig .tc := ⟨.hbm, 63, rfl⟩
abbrev main_call6_c_3 : Ref sig .tc := ⟨.hbm, 64, rfl⟩
abbrev main_call6_v12 : Ref sig .tc := ⟨.hbm, 65, rfl⟩
abbrev main_call6_v13 : Ref sig .tc := ⟨.hbm, 66, rfl⟩
abbrev main_call6_v14 : Ref sig .tc := ⟨.hbm, 67, rfl⟩
abbrev main_call6_cst : Ref sig .tc := ⟨.hbm, 68, rfl⟩
abbrev main_call6_v15 : Ref sig .tc := ⟨.hbm, 69, rfl⟩
abbrev main_v24 : Ref sig .tc := ⟨.hbm, 70, rfl⟩
abbrev main_v25 : Ref sig .tc := ⟨.hbm, 71, rfl⟩
abbrev main_cst_7 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_cst_8 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_9 : Ref sig .tc := ⟨.hbm, 86, rfl⟩
abbrev main_v38 : Ref sig .tc := ⟨.hbm, 87, rfl⟩
abbrev main_cst_10 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_11 : Ref sig .tc := ⟨.hbm, 95, rfl⟩
abbrev main_v45 : Ref sig .tc := ⟨.hbm, 96, rfl⟩
abbrev main_v46 : Ref sig .tc := ⟨.hbm, 97, rfl⟩
abbrev main_cst_12 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_cst_13 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_14 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_15 : Ref sig .tc := ⟨.hbm, 110, rfl⟩
abbrev main_v56 : Ref sig .tc := ⟨.hbm, 111, rfl⟩
abbrev main_v57 : Ref sig .tc := ⟨.hbm, 112, rfl⟩
abbrev main_cst_16 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_cst_17 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_18 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_call8_c : Ref sig .tc := ⟨.hbm, 130, rfl⟩
abbrev main_call8_v0 : Ref sig .tc := ⟨.hbm, 131, rfl⟩
abbrev main_call8_v1 : Ref sig .tc := ⟨.hbm, 132, rfl⟩
abbrev main_call8_c_0 : Ref sig .tc := ⟨.hbm, 133, rfl⟩
abbrev main_call8_v2 : Ref sig .tc := ⟨.hbm, 134, rfl⟩
abbrev main_call8_v3 : Ref sig .tc := ⟨.hbm, 135, rfl⟩
abbrev main_call8_v4 : Ref sig .tc := ⟨.hbm, 136, rfl⟩
abbrev main_call8_v5 : Ref sig .tc := ⟨.hbm, 137, rfl⟩
abbrev main_call8_c_1 : Ref sig .tc := ⟨.hbm, 138, rfl⟩
abbrev main_call8_c_2 : Ref sig .tc := ⟨.hbm, 139, rfl⟩
abbrev main_call8_v6 : Ref sig .tc := ⟨.hbm, 140, rfl⟩
abbrev main_call8_v7 : Ref sig .tc := ⟨.hbm, 141, rfl⟩
abbrev main_call8_v8 : Ref sig .tc := ⟨.hbm, 142, rfl⟩
abbrev main_call8_v9 : Ref sig .tc := ⟨.hbm, 143, rfl⟩
abbrev main_call8_v10 : Ref sig .tc := ⟨.hbm, 144, rfl⟩
abbrev main_call8_v11 : Ref sig .tc := ⟨.hbm, 145, rfl⟩
abbrev main_call8_c_3 : Ref sig .tc := ⟨.hbm, 146, rfl⟩
abbrev main_call8_v12 : Ref sig .tc := ⟨.hbm, 147, rfl⟩
abbrev main_call8_v13 : Ref sig .tc := ⟨.hbm, 148, rfl⟩
abbrev main_call8_v14 : Ref sig .tc := ⟨.hbm, 149, rfl⟩
abbrev main_call8_cst : Ref sig .tc := ⟨.hbm, 150, rfl⟩
abbrev main_call8_v15 : Ref sig .tc := ⟨.hbm, 151, rfl⟩
abbrev main_v72 : Ref sig .tc := ⟨.hbm, 152, rfl⟩
abbrev main_v73 : Ref sig .tc := ⟨.hbm, 153, rfl⟩
abbrev main_cst_19 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_cst_20 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_cst_21 : Ref sig .tc := ⟨.hbm, 168, rfl⟩
abbrev main_v86 : Ref sig .tc := ⟨.hbm, 169, rfl⟩
abbrev main_cst_22 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_cst_23 : Ref sig .tc := ⟨.hbm, 177, rfl⟩
abbrev main_v93 : Ref sig .tc := ⟨.hbm, 178, rfl⟩
abbrev main_v94 : Ref sig .tc := ⟨.hbm, 179, rfl⟩
abbrev main_cst_24 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_cst_25 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_cst_26 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_cst_27 : Ref sig .tc := ⟨.hbm, 192, rfl⟩
abbrev main_v104 : Ref sig .tc := ⟨.hbm, 193, rfl⟩
abbrev main_v105 : Ref sig .tc := ⟨.hbm, 194, rfl⟩
abbrev main_cst_28 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_cst_29 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_cst_30 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_cst_31 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_cst_32 : Ref sig .tc := ⟨.hbm, 215, rfl⟩
abbrev main_v122 : Ref sig .tc := ⟨.hbm, 216, rfl⟩
abbrev main_v123 : Ref sig .tc := ⟨.hbm, 217, rfl⟩
abbrev main_cst_33 : Ref sig .tc := ⟨.hbm, 218, rfl⟩
abbrev main_cst_34 : Ref sig .tc := ⟨.hbm, 219, rfl⟩
abbrev main_call10_v0 : Ref sig .tc := ⟨.hbm, 220, rfl⟩
abbrev main_call10_v1 : Ref sig .tc := ⟨.hbm, 221, rfl⟩
abbrev main_v124 : Ref sig .tc := ⟨.hbm, 222, rfl⟩
abbrev main_v125 : Ref sig .tc := ⟨.hbm, 223, rfl⟩
abbrev main_cst_35 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_call11_call0_cst : Ref sig .tc := ⟨.hbm, 228, rfl⟩
abbrev main_call11_call0_v0 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_cst_36 : Ref sig .tc := ⟨.hbm, 246, rfl⟩
abbrev main_call12_v0 : Ref sig .tc := ⟨.hbm, 247, rfl⟩
abbrev main_call12_v1 : Ref sig .tc := ⟨.hbm, 248, rfl⟩
abbrev main_v145 : Ref sig .tc := ⟨.hbm, 249, rfl⟩
abbrev main_cst_37 : Ref sig .tc := ⟨.hbm, 250, rfl⟩
abbrev main_v146 : Ref sig .tc := ⟨.hbm, 251, rfl⟩
abbrev main_call13_cst : Ref sig .tc := ⟨.hbm, 252, rfl⟩
abbrev main_call13_v0 : Ref sig .tc := ⟨.hbm, 253, rfl⟩
abbrev main_call13_v1 : Ref sig .tc := ⟨.hbm, 254, rfl⟩
abbrev main_call13_v2 : Ref sig .tc := ⟨.hbm, 255, rfl⟩
abbrev main_call13_cst_0 : Ref sig .tc := ⟨.hbm, 256, rfl⟩
abbrev main_call13_v3 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩
abbrev main_call14_c : Ref sig .tc := ⟨.hbm, 263, rfl⟩
abbrev main_call14_v0 : Ref sig .tc := ⟨.hbm, 264, rfl⟩
abbrev main_call14_v1 : Ref sig .tc := ⟨.hbm, 265, rfl⟩
abbrev main_call14_c_0 : Ref sig .tc := ⟨.hbm, 266, rfl⟩
abbrev main_call14_v2 : Ref sig .tc := ⟨.hbm, 267, rfl⟩
abbrev main_call14_v3 : Ref sig .tc := ⟨.hbm, 268, rfl⟩
abbrev main_call14_v4 : Ref sig .tc := ⟨.hbm, 269, rfl⟩
abbrev main_call14_v5 : Ref sig .tc := ⟨.hbm, 270, rfl⟩
abbrev main_call14_c_1 : Ref sig .tc := ⟨.hbm, 271, rfl⟩
abbrev main_call14_c_2 : Ref sig .tc := ⟨.hbm, 272, rfl⟩
abbrev main_call14_v6 : Ref sig .tc := ⟨.hbm, 273, rfl⟩
abbrev main_call14_v7 : Ref sig .tc := ⟨.hbm, 274, rfl⟩
abbrev main_call14_v8 : Ref sig .tc := ⟨.hbm, 275, rfl⟩
abbrev main_call14_v9 : Ref sig .tc := ⟨.hbm, 276, rfl⟩
abbrev main_call14_v10 : Ref sig .tc := ⟨.hbm, 277, rfl⟩
abbrev main_call14_v11 : Ref sig .tc := ⟨.hbm, 278, rfl⟩
abbrev main_call14_c_3 : Ref sig .tc := ⟨.hbm, 279, rfl⟩
abbrev main_call14_v12 : Ref sig .tc := ⟨.hbm, 280, rfl⟩
abbrev main_call14_v13 : Ref sig .tc := ⟨.hbm, 281, rfl⟩
abbrev main_call14_v14 : Ref sig .tc := ⟨.hbm, 282, rfl⟩
abbrev main_call14_cst : Ref sig .tc := ⟨.hbm, 283, rfl⟩
abbrev main_call14_v15 : Ref sig .tc := ⟨.hbm, 284, rfl⟩
abbrev main_v152 : Ref sig .tc := ⟨.hbm, 285, rfl⟩
abbrev main_v153 : Ref sig .tc := ⟨.hbm, 286, rfl⟩
abbrev main_cst_38 : Ref sig .tc := ⟨.hbm, 287, rfl⟩
abbrev main_v154 : Ref sig .tc := ⟨.hbm, 288, rfl⟩
abbrev main_v155 : Ref sig .tc := ⟨.hbm, 289, rfl⟩
abbrev main_v156 : Ref sig .tc := ⟨.hbm, 290, rfl⟩
abbrev main_v157 : Ref sig .tc := ⟨.hbm, 291, rfl⟩
abbrev main_v158 : Ref sig .tc := ⟨.hbm, 292, rfl⟩
abbrev main_cst_39 : Ref sig .tc := ⟨.hbm, 293, rfl⟩
abbrev main_v159 : Ref sig .tc := ⟨.hbm, 294, rfl⟩
abbrev main_v160 : Ref sig .tc := ⟨.hbm, 295, rfl⟩
abbrev main_v161 : Ref sig .tc := ⟨.hbm, 296, rfl⟩
abbrev main_v162 : Ref sig .tc := ⟨.hbm, 297, rfl⟩
abbrev main_v163 : Ref sig .tc := ⟨.hbm, 298, rfl⟩
abbrev main_v164 : Ref sig .tc := ⟨.hbm, 299, rfl⟩
abbrev main_v165 : Ref sig .tc := ⟨.hbm, 300, rfl⟩
abbrev main_cst_40 : Ref sig .tc := ⟨.hbm, 301, rfl⟩
abbrev main_v166 : Ref sig .tc := ⟨.hbm, 302, rfl⟩
abbrev main_cst_41 : Ref sig .tc := ⟨.hbm, 303, rfl⟩
abbrev main_v167 : Ref sig .tc := ⟨.hbm, 304, rfl⟩
abbrev main_v168 : Ref sig .tc := ⟨.hbm, 305, rfl⟩
abbrev main_v169 : Ref sig .tc := ⟨.hbm, 306, rfl⟩
abbrev main_v170 : Ref sig .tc := ⟨.hbm, 307, rfl⟩
abbrev main_v171 : Ref sig .tc := ⟨.hbm, 308, rfl⟩
abbrev main_v172 : Ref sig .tc := ⟨.hbm, 309, rfl⟩
abbrev main_cst_42 : Ref sig .tc := ⟨.hbm, 310, rfl⟩
abbrev main_v173 : Ref sig .tc := ⟨.hbm, 311, rfl⟩
abbrev main_v174 : Ref sig .tc := ⟨.hbm, 312, rfl⟩
abbrev main_cst_43 : Ref sig .tc := ⟨.hbm, 313, rfl⟩
abbrev main_v175 : Ref sig .tc := ⟨.hbm, 314, rfl⟩
abbrev main_v176 : Ref sig .tc := ⟨.hbm, 315, rfl⟩
abbrev main_v177 : Ref sig .tc := ⟨.hbm, 316, rfl⟩
abbrev main_cst_44 : Ref sig .tc := ⟨.hbm, 317, rfl⟩
abbrev main_v178 : Ref sig .tc := ⟨.hbm, 318, rfl⟩
abbrev main_v179 : Ref sig .tc := ⟨.hbm, 319, rfl⟩
abbrev main_v180 : Ref sig .tc := ⟨.hbm, 320, rfl⟩
abbrev main_cst_45 : Ref sig .tc := ⟨.hbm, 321, rfl⟩
abbrev main_v181 : Ref sig .tc := ⟨.hbm, 322, rfl⟩
abbrev main_v182 : Ref sig .tc := ⟨.hbm, 323, rfl⟩
abbrev main_v183 : Ref sig .tc := ⟨.hbm, 324, rfl⟩
abbrev main_cst_46 : Ref sig .tc := ⟨.hbm, 325, rfl⟩
abbrev main_v184 : Ref sig .tc := ⟨.hbm, 326, rfl⟩
abbrev main_v185 : Ref sig .tc := ⟨.hbm, 327, rfl⟩
abbrev main_cst_47 : Ref sig .tc := ⟨.hbm, 328, rfl⟩
abbrev main_v186 : Ref sig .tc := ⟨.hbm, 329, rfl⟩
abbrev main_v187 : Ref sig .tc := ⟨.hbm, 330, rfl⟩
abbrev main_v188 : Ref sig .tc := ⟨.hbm, 331, rfl⟩
abbrev main_cst_48 : Ref sig .tc := ⟨.hbm, 332, rfl⟩
abbrev main_v189 : Ref sig .tc := ⟨.hbm, 333, rfl⟩
abbrev main_v190 : Ref sig .tc := ⟨.hbm, 334, rfl⟩
abbrev main_v191 : Ref sig .tc := ⟨.hbm, 335, rfl⟩
abbrev main_cst_49 : Ref sig .tc := ⟨.hbm, 336, rfl⟩
abbrev main_v192 : Ref sig .tc := ⟨.hbm, 337, rfl⟩
abbrev main_v193 : Ref sig .tc := ⟨.hbm, 338, rfl⟩
abbrev main_v194 : Ref sig .tc := ⟨.hbm, 339, rfl⟩
abbrev main_v195 : Ref sig .tc := ⟨.hbm, 340, rfl⟩
abbrev main_v196 : Ref sig .tc := ⟨.hbm, 341, rfl⟩
abbrev main_v197 : Ref sig .tc := ⟨.hbm, 342, rfl⟩
abbrev main_v198 : Ref sig .tc := ⟨.hbm, 343, rfl⟩
abbrev main_v199 : Ref sig .tc := ⟨.hbm, 344, rfl⟩
abbrev main_call16_c : Ref sig .tc := ⟨.hbm, 345, rfl⟩
abbrev main_call16_v0 : Ref sig .tc := ⟨.hbm, 346, rfl⟩
abbrev main_call16_v1 : Ref sig .tc := ⟨.hbm, 347, rfl⟩
abbrev main_call16_c_0 : Ref sig .tc := ⟨.hbm, 348, rfl⟩
abbrev main_call16_v2 : Ref sig .tc := ⟨.hbm, 349, rfl⟩
abbrev main_call16_v3 : Ref sig .tc := ⟨.hbm, 350, rfl⟩
abbrev main_call16_v4 : Ref sig .tc := ⟨.hbm, 351, rfl⟩
abbrev main_call16_v5 : Ref sig .tc := ⟨.hbm, 352, rfl⟩
abbrev main_call16_c_1 : Ref sig .tc := ⟨.hbm, 353, rfl⟩
abbrev main_call16_c_2 : Ref sig .tc := ⟨.hbm, 354, rfl⟩
abbrev main_call16_v6 : Ref sig .tc := ⟨.hbm, 355, rfl⟩
abbrev main_call16_v7 : Ref sig .tc := ⟨.hbm, 356, rfl⟩
abbrev main_call16_v8 : Ref sig .tc := ⟨.hbm, 357, rfl⟩
abbrev main_call16_v9 : Ref sig .tc := ⟨.hbm, 358, rfl⟩
abbrev main_call16_v10 : Ref sig .tc := ⟨.hbm, 359, rfl⟩
abbrev main_call16_v11 : Ref sig .tc := ⟨.hbm, 360, rfl⟩
abbrev main_call16_c_3 : Ref sig .tc := ⟨.hbm, 361, rfl⟩
abbrev main_call16_v12 : Ref sig .tc := ⟨.hbm, 362, rfl⟩
abbrev main_call16_v13 : Ref sig .tc := ⟨.hbm, 363, rfl⟩
abbrev main_call16_v14 : Ref sig .tc := ⟨.hbm, 364, rfl⟩
abbrev main_call16_cst : Ref sig .tc := ⟨.hbm, 365, rfl⟩
abbrev main_call16_v15 : Ref sig .tc := ⟨.hbm, 366, rfl⟩
abbrev main_v200 : Ref sig .tc := ⟨.hbm, 367, rfl⟩
abbrev main_v201 : Ref sig .tc := ⟨.hbm, 368, rfl⟩
abbrev main_cst_50 : Ref sig .tc := ⟨.hbm, 369, rfl⟩
abbrev main_v202 : Ref sig .tc := ⟨.hbm, 370, rfl⟩
abbrev main_v203 : Ref sig .tc := ⟨.hbm, 371, rfl⟩
abbrev main_v204 : Ref sig .tc := ⟨.hbm, 372, rfl⟩
abbrev main_v205 : Ref sig .tc := ⟨.hbm, 373, rfl⟩
abbrev main_v206 : Ref sig .tc := ⟨.hbm, 374, rfl⟩
abbrev main_cst_51 : Ref sig .tc := ⟨.hbm, 375, rfl⟩
abbrev main_v207 : Ref sig .tc := ⟨.hbm, 376, rfl⟩
abbrev main_v208 : Ref sig .tc := ⟨.hbm, 377, rfl⟩
abbrev main_v209 : Ref sig .tc := ⟨.hbm, 378, rfl⟩
abbrev main_v210 : Ref sig .tc := ⟨.hbm, 379, rfl⟩
abbrev main_v211 : Ref sig .tc := ⟨.hbm, 380, rfl⟩
abbrev main_v212 : Ref sig .tc := ⟨.hbm, 381, rfl⟩
abbrev main_v213 : Ref sig .tc := ⟨.hbm, 382, rfl⟩
abbrev main_cst_52 : Ref sig .tc := ⟨.hbm, 383, rfl⟩
abbrev main_v214 : Ref sig .tc := ⟨.hbm, 384, rfl⟩
abbrev main_cst_53 : Ref sig .tc := ⟨.hbm, 385, rfl⟩
abbrev main_v215 : Ref sig .tc := ⟨.hbm, 386, rfl⟩
abbrev main_v216 : Ref sig .tc := ⟨.hbm, 387, rfl⟩
abbrev main_v217 : Ref sig .tc := ⟨.hbm, 388, rfl⟩
abbrev main_v218 : Ref sig .tc := ⟨.hbm, 389, rfl⟩
abbrev main_v219 : Ref sig .tc := ⟨.hbm, 390, rfl⟩
abbrev main_v220 : Ref sig .tc := ⟨.hbm, 391, rfl⟩
abbrev main_cst_54 : Ref sig .tc := ⟨.hbm, 392, rfl⟩
abbrev main_v221 : Ref sig .tc := ⟨.hbm, 393, rfl⟩
abbrev main_v222 : Ref sig .tc := ⟨.hbm, 394, rfl⟩
abbrev main_cst_55 : Ref sig .tc := ⟨.hbm, 395, rfl⟩
abbrev main_v223 : Ref sig .tc := ⟨.hbm, 396, rfl⟩
abbrev main_v224 : Ref sig .tc := ⟨.hbm, 397, rfl⟩
abbrev main_v225 : Ref sig .tc := ⟨.hbm, 398, rfl⟩
abbrev main_cst_56 : Ref sig .tc := ⟨.hbm, 399, rfl⟩
abbrev main_v226 : Ref sig .tc := ⟨.hbm, 400, rfl⟩
abbrev main_v227 : Ref sig .tc := ⟨.hbm, 401, rfl⟩
abbrev main_v228 : Ref sig .tc := ⟨.hbm, 402, rfl⟩
abbrev main_cst_57 : Ref sig .tc := ⟨.hbm, 403, rfl⟩
abbrev main_v229 : Ref sig .tc := ⟨.hbm, 404, rfl⟩
abbrev main_v230 : Ref sig .tc := ⟨.hbm, 405, rfl⟩
abbrev main_v231 : Ref sig .tc := ⟨.hbm, 406, rfl⟩
abbrev main_cst_58 : Ref sig .tc := ⟨.hbm, 407, rfl⟩
abbrev main_v232 : Ref sig .tc := ⟨.hbm, 408, rfl⟩
abbrev main_v233 : Ref sig .tc := ⟨.hbm, 409, rfl⟩
abbrev main_cst_59 : Ref sig .tc := ⟨.hbm, 410, rfl⟩
abbrev main_v234 : Ref sig .tc := ⟨.hbm, 411, rfl⟩
abbrev main_v235 : Ref sig .tc := ⟨.hbm, 412, rfl⟩
abbrev main_v236 : Ref sig .tc := ⟨.hbm, 413, rfl⟩
abbrev main_cst_60 : Ref sig .tc := ⟨.hbm, 414, rfl⟩
abbrev main_v237 : Ref sig .tc := ⟨.hbm, 415, rfl⟩
abbrev main_v238 : Ref sig .tc := ⟨.hbm, 416, rfl⟩
abbrev main_v239 : Ref sig .tc := ⟨.hbm, 417, rfl⟩
abbrev main_cst_61 : Ref sig .tc := ⟨.hbm, 418, rfl⟩
abbrev main_v240 : Ref sig .tc := ⟨.hbm, 419, rfl⟩
abbrev main_v241 : Ref sig .tc := ⟨.hbm, 420, rfl⟩
abbrev main_v242 : Ref sig .tc := ⟨.hbm, 421, rfl⟩
abbrev main_v243 : Ref sig .tc := ⟨.hbm, 422, rfl⟩
abbrev main_v244 : Ref sig .tc := ⟨.hbm, 423, rfl⟩
abbrev main_v245 : Ref sig .tc := ⟨.hbm, 424, rfl⟩
abbrev main_v246 : Ref sig .tc := ⟨.hbm, 425, rfl⟩

abbrev nD : Nat := 1
abbrev τ : Topo := Topo.v7x

variable {F : FTy → Type} [FloatOps F]
-- ==== Proof.Body.lean ====
/-
  What one block of the kernel computes, as whole-array functions: a masked shift along a row, the eight doubling steps
  of the four scans that it drives, what is read off the scans, and the projection of one row of the block.
-/
module

public import proofs.«01_k».proof.Proof.Gen.KernelIdeal.Value
public import Idealize.ShloMosaic.Lib.Pointwise
public import Idealize.ShloMosaic.Lib.ValueIdx

@[expose] public section

noncomputable section

namespace Cert.Body

open Cert.KernelIdeal Cert.KernelIdeal.Gen Idealize.ShloMosaic

/-- The position of every place of a block in its own sequence. -/
def seqPos : IVec S8x1600 32 :=
  subi (iota .tc S8x1600 32 [1] iota_S8x1600_d1_w32)
    (muli (broadcast S8x1600 200#32)
      (shrsi (muli (iota .tc S8x1600 32 [1] iota_S8x1600_d1_w32) (broadcast S8x1600 20972#32)) (broadcast S8x1600 22#32)))

/-- One step of a scan: a move of every row by `len` places to the right, of which `rest` places survive. -/
structure Hop where
  len : Nat
  rest : Nat
  slices : S8x1600.Slices ![0, 0] ⟨2, ![8, rest]⟩
  joins : Shape.Concatenates [⟨2, ![8, len]⟩, ⟨2, ![8, rest]⟩] S8x1600 1

/-- The move of a step within each sequence: `fill` where fewer than `len` places of the sequence precede. -/
def hop {α : Type} (h : Hop) (fill : α) (x : S8x1600.Idx → α) : S8x1600.Idx → α :=
  select (cmpi .sge seqPos (broadcast S8x1600 (BitVec.ofNat 32 h.len)))
    (concatenate S8x1600 1 [⟨⟨2, ![8, h.len]⟩, broadcast _ fill⟩, ⟨⟨2, ![8, h.rest]⟩, extractStridedSlice _ ![0, 0] x h.slices⟩] h.joins)
    (broadcast S8x1600 fill)

/-- The eight doubling steps. -/
def hops : List Hop :=
  [⟨1, 1599, slices_S8x1600_o0_0_S8x1599, concatenates_S8x1_S8x1599_S8x1600_d1⟩,
    ⟨2, 1598, slices_S8x1600_o0_0_S8x1598, concatenates_S8x2_S8x1598_S8x1600_d1⟩,
    ⟨4, 1596, slices_S8x1600_o0_0_S8x1596, concatenates_S8x4_S8x1596_S8x1600_d1⟩,
    ⟨8, 1592, slices_S8x1600_o0_0_S8x1592, concatenates_S8x8_S8x1592_S8x1600_d1⟩,
    ⟨16, 1584, slices_S8x1600_o0_0_S8x1584, concatenates_S8x16_S8x1584_S8x1600_d1⟩,
    ⟨32, 1568, slices_S8x1600_o0_0_S8x1568, concatenates_S8x32_S8x1568_S8x1600_d1⟩,
    ⟨64, 1536, slices_S8x1600_o0_0_S8x1536, concatenates_S8x64_S8x1536_S8x1600_d1⟩,
    ⟨128, 1472, slices_S8x1600_o0_0_S8x1472, concatenates_S8x128_S8x1472_S8x1600_d1⟩]

/-- The running `or` of words. -/
def anyScan (hs : List Hop) (u : IVec S8x1600 32) : IVec S8x1600 32 := hs.foldl (fun u h => ori u (hop h 0#32 u)) u

/-- The running sum. -/
def sumScan (hs : List Hop) (v : FVec Ideal S8x1600 .f32) : FVec Ideal S8x1600 .f32 :=
  hs.foldl (fun v h => addf v (hop h (Scalar.ofBits .f32 0x00000000#32 : Ideal .f32) v)) v

/-- The running product, and with it the running value of the recurrence `x ↦ a * x + b`. -/
def affScan (hs : List Hop) (ab : FVec Ideal S8x1600 .f32 × FVec Ideal S8x1600 .f32) : FVec Ideal S8x1600 .f32 × FVec Ideal S8x1600 .f32 :=
  hs.foldl (fun ab h => (mulf ab.1 (hop h (Scalar.ofBits .f32 0x3F800000#32 : Ideal .f32) ab.1),
    addf (mulf ab.1 (hop h (Scalar.ofBits .f32 0x00000000#32 : Ideal .f32) ab.2)) ab.2)) ab

/-- The mask of the places that carry a special token. -/
def isSpecial (t : IVec S8x1600 32) : IVec S8x1600 1 := cmpi .sle t (broadcast S8x1600 4#32)

/-- The token clipped to the table of five. -/
def tokClip (t : IVec S8x1600 32) : IVec S8x1600 32 := select (isSpecial t) t (broadcast S8x1600 4#32)

/-- The value, with zero at the special tokens. -/
def valClip (t : IVec S8x1600 32) (v : FVec Ideal S8x1600 .f32) : FVec Ideal S8x1600 .f32 :=
  select (isSpecial t) (broadcast S8x1600 (Scalar.ofBits .f32 0x00000000#32)) v

/-- The mask of the special tokens that are neither start nor end. -/
def isBreak (t : IVec S8x1600 32) : IVec S8x1600 1 :=
  andi (andi (isSpecial t) (cmpi .ne t (broadcast S8x1600 2#32))) (cmpi .ne t (broadcast S8x1600 3#32))

/-- The recurrence's coefficient. -/
def coeff (t : IVec S8x1600 32) : FVec Ideal S8x1600 .f32 :=
  select (isBreak t) (broadcast S8x1600 (Scalar.ofBits .f32 0x358637BD#32)) (broadcast S8x1600 (Scalar.ofBits .f32 0x3F800000#32))

/-- The recurrence's inhomogeneous term. -/
def inhom (x : FVec Ideal S8x1600 .f32) : FVec Ideal S8x1600 .f32 :=
  mulf (select (cmpf .olt x (broadcast S8x1600 (Scalar.ofBits .f32 0x00000000#32)))
      (broadcast S8x1600 (Scalar.ofBits .f32 0xBF800000#32)) (broadcast S8x1600 (Scalar.ofBits .f32 0x3F800000#32)))
    (maximumf (absf x) (broadcast S8x1600 (Scalar.ofBits .f32 0x358637BD#32)))

/-- The mask of the places at or after a special token that is neither start nor end. -/
def isUnk (t : IVec S8x1600 32) : IVec S8x1600 1 :=
  cmpi .sgt (anyScan hops (extui 32 (isBreak t))) (broadcast S8x1600 0#32)

/-- The known position. -/
def posKnown (t : IVec S8x1600 32) (v : FVec Ideal S8x1600 .f32) : FVec Ideal S8x1600 .f32 :=
  select (isUnk t) (broadcast S8x1600 (Scalar.ofBits .f32 0x00000000#32)) (sumScan hops (valClip t v))

/-- The known token. -/
def tokKnown (t : IVec S8x1600 32) : IVec S8x1600 32 :=
  select (andi (isUnk t) (cmpi .eq (tokClip t) (broadcast S8x1600 4#32))) (broadcast S8x1600 1#32) (tokClip t)

/-- The position within the interval, rounded to four places. -/
def posInt (t : IVec S8x1600 32) (v : FVec Ideal S8x1600 .f32) : FVec Ideal S8x1600 .f32 :=
  divf (roundeven (mulf (affScan hops (coeff t, inhom (valClip t v))).2 (broadcast S8x1600 (Scalar.ofBits .f32 0x461C4000#32))))
    (broadcast S8x1600 (Scalar.ofBits .f32 0x461C4000#32))

/-- The frequencies of the sinusoid, in turns. -/
def freqTurns : FVec Ideal S32x1 .f32 := k0_pay91 (F := Ideal)

/-- The numbers of the five table rows. -/
def rowIds : IVec S5x1 32 := iota .tc S5x1 32 [0] iota_S5x1_d0_w32

/-- The fractional part of the turns of one row of positions. -/
def turnFrac (row : FVec Ideal S1x1600 .f32) : FVec Ideal S32x1600 .f32 :=
  subf (mulf (broadcastTo S32x1600 freqTurns broadcasts_S32x1_S32x1600) (broadcastTo S32x1600 row broadcasts_S1x1600_S32x1600))
    (roundeven (mulf (broadcastTo S32x1600 freqTurns broadcasts_S32x1_S32x1600) (broadcastTo S32x1600 row broadcasts_S1x1600_S32x1600)))

/-- The word `w` as a number, everywhere. -/
def word (w : BitVec 32) : FVec Ideal S32x1600 .f32 := broadcast S32x1600 (Scalar.ofBits .f32 w)

/-- The odd polynomial of the fractional part. -/
def sinPart (u : FVec Ideal S32x1600 .f32) : FVec Ideal S32x1600 .f32 :=
  mulf u (addf (word 0x40C90745#32) (mulf (mulf u u) (addf (word 0xC224D2B6#32) (mulf (mulf u u)
    (addf (word 0x429DA736#32) (mulf (mulf u u) (word 0xC26889F7#32)))))))

/-- The even polynomial of the fractional part. -/
def cosPart (u : FVec Ideal S32x1600 .f32) : FVec Ideal S32x1600 .f32 :=
  addf (word 0x3F7FA210#32) (mulf (mulf u u) (addf (word 0xC19C6BF8#32) (mulf (mulf u u)
    (addf (word 0x42746DA7#32) (mulf (mulf u u) (word 0xC26E5180#32))))))

/-- The indicator of one row of tokens over the table's rows. -/
def oneHot (row : IVec S1x1600 32) : FVec Ideal S5x1600 .f32 :=
  sitofp .f32 (extui 32 (cmpi .eq (broadcastTo S5x1600 row broadcasts_S1x1600_S5x1600) (broadcastTo S5x1600 rowIds broadcasts_S5x1_S5x1600)) natLt_1_32)

/-- The features of one row of the block. -/
def features (p0 p1 p2 p3 : FVec Ideal S1x1600 .f32) (t0 t1 t2 t3 : IVec S1x1600 32) : FVec Ideal S276x1600 .f32 :=
  concatenate S276x1600 0 [⟨S32x1600, sinPart (turnFrac p0)⟩, ⟨S32x1600, cosPart (turnFrac p0)⟩, ⟨S32x1600, sinPart (turnFrac p1)⟩, ⟨S32x1600, cosPart (turnFrac p1)⟩, ⟨S32x1600, sinPart (turnFrac p2)⟩, ⟨S32x1600, cosPart (turnFrac p2)⟩, ⟨S32x1600, sinPart (turnFrac p3)⟩, ⟨S32x1600, cosPart (turnFrac p3)⟩, ⟨S5x1600, oneHot t0⟩, ⟨S5x1600, oneHot t1⟩, ⟨S5x1600, oneHot t2⟩, ⟨S5x1600, oneHot t3⟩]
    concatenates_S32x1600_S32x1600_S32x1600_S32x1600_S32x1600_S32x1600_S32x1600_S32x1600_S5x1600_S5x1600_S5x1600_S5x1600_S276x1600_d0

/-- The weights, with the tables folded through their quarter of the projection below them. -/
def weights (w : FVec Ideal S256x512 .f32) (ea eb : FVec Ideal S5x64 .f32) : FVec Ideal S276x512 .f32 := k0_pay93 w ea eb

/-- The projection of one row of the block. -/
def rowOut (W : FVec Ideal S276x512 .f32) (p0 p1 p2 p3 : FVec Ideal S1x1600 .f32) (t0 t1 t2 t3 : IVec S1x1600 32) : FVec Ideal S8x200x512 .f32 :=
  shapeCast S8x200x512 (matmul dot_S276x1600_S276x512_S1600x512_0_0_1_1_n_n none (features p0 p1 p2 p3 t0 t1 t2 t3) W
    (constant S1600x512 .f32 0x00000000#32)) shapeCasts_S1600x512_S8x200x512

/-- The projection of row `r` of the block. -/
def blockRow (r : Nat) (h : S8x1600.Slices ![r, 0] S1x1600) (W : FVec Ideal S276x512 .f32) (p0 p1 p2 p3 : FVec Ideal S8x1600 .f32)
    (t0 t1 t2 t3 : IVec S8x1600 32) : FVec Ideal S8x200x512 .f32 :=
  rowOut W (extractStridedSlice S1x1600 ![r, 0] p0 h) (extractStridedSlice S1x1600 ![r, 0] p1 h) (extractStridedSlice S1x1600 ![r, 0] p2 h)
    (extractStridedSlice S1x1600 ![r, 0] p3 h) (extractStridedSlice S1x1600 ![r, 0] t0 h) (extractStridedSlice S1x1600 ![r, 0] t1 h)
    (extractStridedSlice S1x1600 ![r, 0] t2 h) (extractStridedSlice S1x1600 ![r, 0] t3 h)

/-- A window of the block's inputs, read whole. -/
def whole {e : EltTy} (x : Vec Ideal S8x1600 e) : Vec Ideal S8x1600 e := shapeCast S8x1600 (View.ld x r0_0) shapeCasts_S8x1600_S8x1600

/-- The block written from its weights, its positions and its tokens, one row after another. -/
def block (W : FVec Ideal S276x512 .f32) (p0 p1 p2 p3 : FVec Ideal S8x1600 .f32) (t0 t1 t2 t3 : IVec S8x1600 32) : Vec Ideal S64x200x512 .f32 :=
  View.canon [⟨r0_10, blockRow 7 slices_S8x1600_o7_0_S1x1600 W p0 p1 p2 p3 t0 t1 t2 t3⟩,
    ⟨r0_9, blockRow 6 slices_S8x1600_o6_0_S1x1600 W p0 p1 p2 p3 t0 t1 t2 t3⟩,
    ⟨r0_8, blockRow 5 slices_S8x1600_o5_0_S1x1600 W p0 p1 p2 p3 t0 t1 t2 t3⟩,
    ⟨r0_7, blockRow 4 slices_S8x1600_o4_0_S1x1600 W p0 p1 p2 p3 t0 t1 t2 t3⟩,
    ⟨r0_6, blockRow 3 slices_S8x1600_o3_0_S1x1600 W p0 p1 p2 p3 t0 t1 t2 t3⟩,
    ⟨r0_5, blockRow 2 slices_S8x1600_o2_0_S1x1600 W p0 p1 p2 p3 t0 t1 t2 t3⟩,
    ⟨r0_4, blockRow 1 slices_S8x1600_o1_0_S1x1600 W p0 p1 p2 p3 t0 t1 t2 t3⟩,
    ⟨r0_3, blockRow 0 slices_S8x1600_o0_0_S1x1600 W p0 p1 p2 p3 t0 t1 t2 t3⟩]

variable (x0 x1 : Vec Ideal S8x1600 .i32) (x2 x3 : Vec Ideal S8x1600 .f32) (x4 x5 : Vec Ideal S5x64 .f32) (x6 : Vec Ideal S256x512 .f32)

theorem tokClip0_eq : k0_pay264 x0 x1 x2 x3 x4 x5 x6 = tokClip (whole x0) := rfl
theorem tokClip1_eq : k0_pay279 x0 x1 x2 x3 x4 x5 x6 = tokClip (whole x1) := rfl
theorem tokKnown0_eq : k0_pay276 x0 x1 x2 x3 x4 x5 x6 = tokKnown (whole x0) := rfl
theorem tokKnown1_eq : k0_pay296 x0 x1 x2 x3 x4 x5 x6 = tokKnown (whole x1) := rfl
theorem posKnown0_eq : k0_pay275 x0 x1 x2 x3 x4 x5 x6 = posKnown (whole x0) (whole x2) := rfl
theorem posKnown1_eq : k0_pay295 x0 x1 x2 x3 x4 x5 x6 = posKnown (whole x1) (whole x3) := rfl
theorem posInt0_eq : k0_pay277 x0 x1 x2 x3 x4 x5 x6 = posInt (whole x0) (whole x2) := rfl
theorem posInt1_eq : k0_pay297 x0 x1 x2 x3 x4 x5 x6 = posInt (whole x1) (whole x3) := rfl
theorem rowIds_eq : k0_pay294 x0 x1 x2 x3 x4 x5 x6 = rowIds := rfl
theorem freqTurns_eq : k0_pay298 x0 x1 x2 x3 x4 x5 x6 = freqTurns := rfl

/-- The block that one grid point writes. -/
theorem out_eq : out0_7 x0 x1 x2 x3 x4 x5 x6 = block (k0_pay299 x0 x1 x2 x3 x4 x5 x6) (posKnown (whole x0) (whole x2)) (posKnown (whole x1) (whole x3))
    (posInt (whole x0) (whole x2)) (posInt (whole x1) (whole x3)) (tokKnown (whole x0)) (tokKnown (whole x1)) (tokClip (whole x0)) (tokClip (whole x1)) := by
  unfold out0_7
  dsimp only [k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323]
  rw [tokClip0_eq, tokClip1_eq, tokKnown0_eq, tokKnown1_eq, posKnown0_eq, posKnown1_eq, posInt0_eq, posInt1_eq, rowIds_eq, freqTurns_eq]
  generalize k0_pay299 x0 x1 x2 x3 x4 x5 x6 = W
  generalize tokClip (whole x0) = tc0
  generalize tokClip (whole x1) = tc1
  generalize tokKnown (whole x0) = tk0
  generalize tokKnown (whole x1) = tk1
  generalize posKnown (whole x0) (whole x2) = pk0
  generalize posKnown (whole x1) (whole x3) = pk1
  generalize posInt (whole x0) (whole x2) = pi0
  generalize posInt (whole x1) (whole x3) = pi1
  rfl

end Cert.Body
-- ==== Proof.Shift.lean ====
/-
  The move of one step of a scan, read at a place of a sequence.
-/
module

public import proofs.«01_k».proof.Proof.Body
public import Idealize.ShloMosaic.Lib.WordCmp

@[expose] public section

noncomputable section

namespace Cert.Body

open Cert.KernelIdeal Cert.KernelIdeal.Gen Idealize.ShloMosaic

/-- The word that the block holds at place `p` of a row for its position in its sequence. -/
theorem seqPos_word : ∀ p : Fin 1600,
    IntOp.subi (BitVec.ofNat 32 p.val) (IntOp.muli 200#32 (IntOp.shrsi .vector (IntOp.muli (BitVec.ofNat 32 p.val) 20972#32) 22#32))
      = BitVec.ofNat 32 (p.val % 200) := by
  decide +kernel

/-- The position of a place in its sequence. -/
theorem seqPos_apply (r : Fin 8) (p : Fin 1600) : seqPos (ix2 r p) = BitVec.ofNat 32 (p.val % 200) := by
  refine Eq.trans ?_ (seqPos_word p)
  unfold seqPos
  pointwise

/-- Place `s` of sequence `c` in a row of the block. -/
def place (c : Fin 8) (s : Nat) (hs : s < 200) : Fin 1600 := ⟨200 * c.val + s, by omega⟩

/-- What one row of the block holds at place `s` of sequence `c` (anything past the end). -/
def line {α : Type} [Inhabited α] (x : S8x1600.Idx → α) (r c : Fin 8) (s : Nat) : α :=
  if hs : s < 200 then x (ix2 r (place c s hs)) else default

theorem line_of_lt {α : Type} [Inhabited α] (x : S8x1600.Idx → α) (r c : Fin 8) (s : Nat) (hs : s < 200) :
    line x r c s = x (ix2 r (place c s hs)) := dif_pos hs

/-- The move of a step, read at a place. -/
theorem hop_line {α : Type} [Inhabited α] (h : Hop) (h1 : h.len ≤ 200) (h2 : h.len + h.rest = 1600) (fill : α) (x : S8x1600.Idx → α)
    (r c : Fin 8) (s : Nat) (hs : s < 200) : line (hop h fill x) r c s = if h.len ≤ s then line x r c (s - h.len) else fill := by
  rw [line_of_lt _ _ _ _ hs]
  have hp : (place c s hs).val = 200 * c.val + s := rfl
  have hm : cmpi .sge seqPos (broadcast S8x1600 (BitVec.ofNat 32 h.len)) (ix2 r (place c s hs)) = BitVec.ofBool (decide (h.len ≤ s)) := by
    show IntOp.cmpi .sge (seqPos (ix2 r (place c s hs))) (BitVec.ofNat 32 h.len) = _
    rw [seqPos_apply, show (place c s hs).val % 200 = s by rw [hp]; omega]
    word_cmp
  unfold hop
  show Scalar.select (cmpi .sge seqPos (broadcast S8x1600 (BitVec.ofNat 32 h.len)) (ix2 r (place c s hs))) _ _ = _
  rw [hm]
  by_cases hk : h.len ≤ s
  · rw [if_pos hk, line_of_lt _ _ _ _ (by omega : s - h.len < 200), decide_eq_true hk]
    refine (concatenate_pair_apply_right 1 (broadcast _ fill) (extractStridedSlice _ ![0, 0] x h.slices) h.joins (ix2 r (place c s hs)) rfl rfl
      (ix2 r ⟨200 * c.val + (s - h.len), by omega⟩) ?_ ?_).trans ?_
    · intro b; fin_cases b <;> simp [ix2]
    · show 200 * c.val + (s - h.len) + h.len = 200 * c.val + s
      omega
    · unfold extractStridedSlice
      refine congrArg x (funext fun b => Fin.ext ?_)
      fin_cases b <;> simp [ix2, place]
  · rw [if_neg hk, decide_eq_false hk]
    rfl

end Cert.Body
-- ==== Proof.ScanMath.lean ====
/-
  The mathematics of a scan by doubling: if every place holds the sum (product, `or`, weighted sum) over the `K` places
  that end in it, one step that brings in the place `K` before makes it the one over `2 K` places.
-/
module

public import Mathlib.Data.EReal.Operations
public import Mathlib.Algebra.BigOperators.Intervals
public import Mathlib.Analysis.SpecialFunctions.Log.Basic

@[expose] public section

noncomputable section

namespace Cert.ScanMath

open Finset

/-- Doubling the window of a product. -/
theorem prod_window {M : Type} [CommMonoid M] (g : ℕ → M) (K s : ℕ) :
    (∏ q ∈ range (min K (s + 1)), g (s - q)) * (if K ≤ s then ∏ q ∈ range (min K (s - K + 1)), g (s - K - q) else 1)
      = ∏ q ∈ range (min (K + K) (s + 1)), g (s - q) := by
  by_cases h : K ≤ s
  · rw [if_pos h, Nat.min_eq_left (by omega : K ≤ s + 1), show min (K + K) (s + 1) = K + min K (s - K + 1) by omega, prod_range_add]
    exact congrArg _ (prod_congr rfl fun q _ => by rw [Nat.sub_sub])
  · rw [if_neg h, mul_one, Nat.min_eq_right (by omega : s + 1 ≤ K), Nat.min_eq_right (by omega : s + 1 ≤ K + K)]

/-- Doubling the window of a sum. -/
theorem sum_window {M : Type} [AddCommMonoid M] (g : ℕ → M) (K s : ℕ) :
    (∑ q ∈ range (min K (s + 1)), g (s - q)) + (if K ≤ s then ∑ q ∈ range (min K (s - K + 1)), g (s - K - q) else 0)
      = ∑ q ∈ range (min (K + K) (s + 1)), g (s - q) :=
  prod_window (M := Multiplicative M) g K s

/-- A product of reals, each of them taken as an extended real. -/
theorem coe_prod (α : ℕ → ℝ) (n s : ℕ) : ((∏ q ∈ range n, α (s - q) : ℝ) : EReal) = ∏ q ∈ range n, ((fun j => (α j : EReal)) (s - q)) := by
  induction n with
  | zero => simp
  | succ n ih => rw [prod_range_succ, prod_range_succ, EReal.coe_mul, ih]

/-- One step of the running sum. -/
theorem sum_step {M : Type} [AddCommMonoid M] {N : ℕ} (g f f' : ℕ → M) (K : ℕ) (hf : ∀ s < N, f s = ∑ q ∈ range (min K (s + 1)), g (s - q))
    (hs : ∀ s < N, f' s = f s + if K ≤ s then f (s - K) else 0) :
    ∀ s < N, f' s = ∑ q ∈ range (min (K + K) (s + 1)), g (s - q) := fun s h => by
  rw [hs s h, hf s h, hf (s - K) (by omega)]
  exact sum_window g K s

/-- One step of the running product. -/
theorem prod_step {M : Type} [CommMonoid M] {N : ℕ} (g f f' : ℕ → M) (K : ℕ) (hf : ∀ s < N, f s = ∏ q ∈ range (min K (s + 1)), g (s - q))
    (hs : ∀ s < N, f' s = f s * if K ≤ s then f (s - K) else 1) :
    ∀ s < N, f' s = ∏ q ∈ range (min (K + K) (s + 1)), g (s - q) := fun s h => by
  rw [hs s h, hf s h, hf (s - K) (by omega)]
  exact prod_window g K s

/-- A real factor that is not negative goes into a sum of extended reals. -/
theorem coe_mul_sum (c : ℝ) (hc : 0 ≤ c) (n : ℕ) (f : ℕ → EReal) :
    (c : EReal) * ∑ q ∈ range n, f q = ∑ q ∈ range n, (c : EReal) * f q := by
  induction n with
  | zero => simp
  | succ n ih =>
    rw [sum_range_succ, sum_range_succ, EReal.left_distrib_of_nonneg_of_ne_top (by exact_mod_cast hc) (EReal.coe_ne_top c), ih]

/-- The weighted sum over the `n` places that end in `s`. -/
def weighted (α : ℕ → ℝ) (β : ℕ → EReal) (n s : ℕ) : EReal :=
  ∑ q ∈ range n, ((∏ i ∈ range q, α (s - i) : ℝ) : EReal) * β (s - q)

/-- One step of the recurrence. -/
theorem weighted_step {N : ℕ} (α : ℕ → ℝ) (hα : ∀ s, 0 ≤ α s) (β a f f' : ℕ → EReal) (K : ℕ)
    (ha : ∀ s < N, a s = ((∏ q ∈ range (min K (s + 1)), α (s - q) : ℝ) : EReal))
    (hf : ∀ s < N, f s = weighted α β (min K (s + 1)) s)
    (hs : ∀ s < N, f' s = a s * (if K ≤ s then f (s - K) else 0) + f s) :
    ∀ s < N, f' s = weighted α β (min (K + K) (s + 1)) s := fun s h => by
  rw [hs s h]
  by_cases hK : K ≤ s
  · rw [if_pos hK, ha s h, hf s h, hf (s - K) (by omega), Nat.min_eq_left (by omega : K ≤ s + 1),
      show min (K + K) (s + 1) = K + min K (s - K + 1) by omega]
    unfold weighted
    rw [sum_range_add, add_comm, coe_mul_sum _ (prod_nonneg fun i _ => hα _)]
    refine congrArg _ (sum_congr rfl fun q _ => ?_)
    rw [← mul_assoc, ← EReal.coe_mul, prod_range_add, Nat.sub_sub]
    refine congrArg (fun x : ℝ => (x : EReal) * β (s - (K + q))) (congrArg _ (prod_congr rfl fun i _ => by rw [Nat.sub_sub]))
  · rw [if_neg hK, mul_zero, zero_add, hf s h, Nat.min_eq_right (by omega : s + 1 ≤ K), Nat.min_eq_right (by omega : s + 1 ≤ K + K)]

/-- The sum over the places that end in `s`, counted from the first. -/
theorem sum_back {M : Type} [AddCommMonoid M] (g : ℕ → M) (s : ℕ) : ∑ q ∈ range (s + 1), g (s - q) = ∑ j ∈ range (s + 1), g j := by
  rw [← sum_range_reflect g (s + 1)]
  exact sum_congr rfl fun q _ => by rw [Nat.add_sub_cancel]

/-- The running product of exponentials back from `s` is the exponential of a difference of running sums. -/
theorem prod_exp (l : ℕ → ℝ) (s q : ℕ) (hq : q ≤ s) :
    ∏ i ∈ range q, Real.exp (l (s - i)) = Real.exp (∑ i ∈ range (s + 1), l i - ∑ i ∈ range (s - q + 1), l i) := by
  induction q with
  | zero => simp
  | succ q ih =>
    rw [prod_range_succ, ih (by omega), ← Real.exp_add, show s - q = s - (q + 1) + 1 by omega, sum_range_succ _ (s - (q + 1) + 1)]
    congr 1
    ring

/-- The weighted sum of a whole prefix, counted from the first place. -/
theorem weighted_eq (l : ℕ → ℝ) (β : ℕ → EReal) (s : ℕ) :
    weighted (fun i => Real.exp (l i)) β (s + 1) s
      = ∑ j ∈ range (s + 1), ((Real.exp (∑ i ∈ range (s + 1), l i - ∑ i ∈ range (j + 1), l i) : ℝ) : EReal) * β j := by
  rw [← sum_back]
  refine sum_congr rfl fun q hq => ?_
  have hq' : q < s + 1 := mem_range.1 hq
  rw [prod_exp l s q (by omega)]

/-- One step of the running `or` of words that are 0 or 1. -/
theorem any_step {N : ℕ} (P : ℕ → Prop) [DecidablePred P] (f f' : ℕ → BitVec 32) (K : ℕ)
    (hf : ∀ s < N, (f s = 1#32 ↔ ∃ q < min K (s + 1), P (s - q)) ∧ (f s = 0#32 ∨ f s = 1#32))
    (hs : ∀ s < N, f' s = f s ||| if K ≤ s then f (s - K) else 0#32) :
    ∀ s < N, (f' s = 1#32 ↔ ∃ q < min (K + K) (s + 1), P (s - q)) ∧ (f' s = 0#32 ∨ f' s = 1#32) := fun s h => by
  obtain ⟨h1, h2⟩ := hf s h
  obtain ⟨h3, h4⟩ := hf (s - K) (by omega)
  rw [hs s h]
  by_cases hK : K ≤ s
  · rw [if_pos hK]
    refine ⟨?_, by rcases h2 with h2 | h2 <;> rcases h4 with h4 | h4 <;> rw [h2, h4] <;> decide⟩
    have hor : (f s ||| f (s - K) = 1#32) ↔ (f s = 1#32 ∨ f (s - K) = 1#32) := by
      rcases h2 with h2 | h2 <;> rcases h4 with h4 | h4 <;> rw [h2, h4] <;> decide
    rw [hor, h1, h3]
    constructor
    · rintro (⟨q, hq, hp⟩ | ⟨q, hq, hp⟩)
      · exact ⟨q, by omega, hp⟩
      · exact ⟨K + q, by omega, by rwa [← Nat.sub_sub]⟩
    · rintro ⟨q, hq, hp⟩
      by_cases hqK : q < K
      · exact Or.inl ⟨q, by omega, hp⟩
      · exact Or.inr ⟨q - K, by omega, by rwa [Nat.sub_sub, Nat.add_sub_cancel' (by omega)]⟩
  · rw [if_neg hK, show f s ||| 0#32 = f s from BitVec.or_zero]
    refine ⟨?_, h2⟩
    rw [h1]
    exact exists_congr fun q => and_congr_left fun _ => by omega

end Cert.ScanMath
-- ==== Proof.Scan.lean ====
/-
  What the eight doubling steps of the block leave, place by place: the sum, the product, the `or` and the weighted sum
  over all the places up to and including the one read.
-/
module

public import proofs.«01_k».proof.Proof.Shift
public import proofs.«01_k».proof.Proof.ScanMath

@[expose] public section

noncomputable section

namespace Cert.Body

open Cert.KernelIdeal Cert.KernelIdeal.Gen Cert.ScanMath Idealize.ShloMosaic Finset

/-- One row of a block of extended reals at place `s` of sequence `c`. -/
def lineE (x : FVec Ideal S8x1600 .f32) (r c : Fin 8) (s : Nat) : EReal := line (α := EReal) x r c s

/-- One row of a block of words at place `s` of sequence `c`. -/
def lineW (x : IVec S8x1600 32) (r c : Fin 8) (s : Nat) : BitVec 32 := line x r c s

theorem lineE_of_lt (x : FVec Ideal S8x1600 .f32) (r c : Fin 8) (s : Nat) (hs : s < 200) : lineE x r c s = x (ix2 r (place c s hs)) :=
  line_of_lt (α := EReal) x r c s hs

theorem lineW_of_lt (x : IVec S8x1600 32) (r c : Fin 8) (s : Nat) (hs : s < 200) : lineW x r c s = x (ix2 r (place c s hs)) :=
  line_of_lt x r c s hs

theorem lineE_add (x y : FVec Ideal S8x1600 .f32) (r c : Fin 8) (s : Nat) (hs : s < 200) :
    lineE (addf x y) r c s = lineE x r c s + lineE y r c s := by
  rw [lineE_of_lt _ _ _ _ hs, lineE_of_lt _ _ _ _ hs, lineE_of_lt _ _ _ _ hs]; rfl

theorem lineE_mul (x y : FVec Ideal S8x1600 .f32) (r c : Fin 8) (s : Nat) (hs : s < 200) :
    lineE (mulf x y) r c s = lineE x r c s * lineE y r c s := by
  rw [lineE_of_lt _ _ _ _ hs, lineE_of_lt _ _ _ _ hs, lineE_of_lt _ _ _ _ hs]; rfl

theorem lineW_or (x y : IVec S8x1600 32) (r c : Fin 8) (s : Nat) (hs : s < 200) :
    lineW (ori x y) r c s = lineW x r c s ||| lineW y r c s := by
  rw [lineW_of_lt _ _ _ _ hs, lineW_of_lt _ _ _ _ hs, lineW_of_lt _ _ _ _ hs]; rfl

/-- A step with zeros filled in. -/
theorem hop_zero (h : Hop) (h1 : h.len ≤ 200) (h2 : h.len + h.rest = 1600) (x : FVec Ideal S8x1600 .f32) (r c : Fin 8) (s : Nat) (hs : s < 200) :
    lineE (hop h (Scalar.ofBits .f32 0x00000000#32 : Ideal .f32) x) r c s = if h.len ≤ s then lineE x r c (s - h.len) else 0 := by
  refine (hop_line (α := EReal) h h1 h2 _ x r c s hs).trans ?_
  rw [show (Scalar.ofBits .f32 0x00000000#32 : Ideal .f32) = (0 : EReal) from Ideal.ofBits_zero_f32]; rfl

/-- A step with ones filled in. -/
theorem hop_one (h : Hop) (h1 : h.len ≤ 200) (h2 : h.len + h.rest = 1600) (x : FVec Ideal S8x1600 .f32) (r c : Fin 8) (s : Nat) (hs : s < 200) :
    lineE (hop h (Scalar.ofBits .f32 0x3F800000#32 : Ideal .f32) x) r c s = if h.len ≤ s then lineE x r c (s - h.len) else 1 := by
  refine (hop_line (α := EReal) h h1 h2 _ x r c s hs).trans ?_
  rw [show (Scalar.ofBits .f32 0x3F800000#32 : Ideal .f32) = (1 : EReal) from Ideal.ofBits_one_f32]; rfl

/-- The steps double, the first being `K`, and none is longer than a sequence. -/
def Doubles : ℕ → List Hop → Prop
  | _, [] => True
  | K, h :: hs => (h.len = K ∧ K ≤ 200 ∧ h.len + h.rest = 1600) ∧ Doubles (K + K) hs

theorem hops_double : Doubles 1 hops := by
  simp [Doubles, hops]

/-- Doubling steps, from running sums over `K` places. -/
theorem sumScan_window (g : ℕ → EReal) (r c : Fin 8) : ∀ (hs : List Hop) (K : ℕ) (v : FVec Ideal S8x1600 .f32), Doubles K hs →
    (∀ s < 200, lineE v r c s = ∑ q ∈ range (min K (s + 1)), g (s - q)) →
    ∀ s < 200, lineE (sumScan hs v) r c s = ∑ q ∈ range (min (K * 2 ^ hs.length) (s + 1)), g (s - q)
  | [], K, v, _, hv, s, hs => by rw [List.length_nil, pow_zero, mul_one]; exact hv s hs
  | h :: t, K, v, ⟨⟨e, h1, h2⟩, hd⟩, hv, s, hs => by
    rw [List.length_cons, pow_succ', ← mul_assoc, mul_two]
    refine sumScan_window g r c t (K + K) _ hd (sum_step g _ _ K hv fun s hs => ?_) s hs
    rw [lineE_add _ _ _ _ _ hs, hop_zero h (e ▸ h1) h2 v r c s hs, e]

/-- The running sum of a row. -/
theorem sumScan_line (v : FVec Ideal S8x1600 .f32) (r c : Fin 8) (s : Nat) (hs : s < 200) :
    lineE (sumScan hops v) r c s = ∑ j ∈ range (s + 1), lineE v r c j := by
  rw [sumScan_window (lineE v r c) r c hops 1 v hops_double (fun s _ => by
    rw [Nat.min_eq_left (by omega : 1 ≤ s + 1), range_one, sum_singleton, Nat.sub_zero]) s hs,
    Nat.min_eq_right (by simp [hops]; omega), sum_back]

/-- Doubling steps, from running products and running values of the recurrence over `K` places. -/
theorem affScan_window (α : ℕ → ℝ) (hα : ∀ s, 0 ≤ α s) (β : ℕ → EReal) (r c : Fin 8) : ∀ (hs : List Hop) (K : ℕ)
    (ab : FVec Ideal S8x1600 .f32 × FVec Ideal S8x1600 .f32), Doubles K hs →
    (∀ s < 200, lineE ab.1 r c s = ∏ q ∈ range (min K (s + 1)), ((fun j => (α j : EReal)) (s - q))) →
    (∀ s < 200, lineE ab.2 r c s = weighted α β (min K (s + 1)) s) →
    ∀ s < 200, lineE (affScan hs ab).2 r c s = weighted α β (min (K * 2 ^ hs.length) (s + 1)) s
  | [], K, ab, _, _, hb, s, hs => by rw [List.length_nil, pow_zero, mul_one]; exact hb s hs
  | h :: t, K, ab, ⟨⟨e, h1, h2⟩, hd⟩, ha, hb, s, hs => by
    rw [List.length_cons, pow_succ', ← mul_assoc, mul_two]
    refine affScan_window α hα β r c t (K + K) _ hd (prod_step (fun j => (α j : EReal)) (lineE ab.1 r c) (lineE _ r c) K ha fun s hs => ?_)
      (weighted_step α hα β (lineE ab.1 r c) (lineE ab.2 r c) (lineE _ r c) K (fun s h => (ha s h).trans (coe_prod α _ s).symm) hb fun s hs => ?_) s hs
    · rw [lineE_mul _ _ _ _ _ hs, hop_one h (e ▸ h1) h2 ab.1 r c s hs, e]
    · rw [lineE_add _ _ _ _ _ hs, lineE_mul _ _ _ _ _ hs, hop_zero h (e ▸ h1) h2 ab.2 r c s hs, e]

/-- The running value of the recurrence that a row of non-negative reals drives. -/
theorem affScan_line (a b : FVec Ideal S8x1600 .f32) (r c : Fin 8) (α : ℕ → ℝ) (hα : ∀ s, 0 ≤ α s)
    (ha : ∀ s < 200, lineE a r c s = (α s : EReal)) (s : Nat) (hs : s < 200) :
    lineE (affScan hops (a, b)).2 r c s = weighted α (lineE b r c) (s + 1) s := by
  rw [affScan_window α hα (lineE b r c) r c hops 1 (a, b) hops_double (fun s h => by
      rw [Nat.min_eq_left (by omega : 1 ≤ s + 1), range_one, prod_singleton, Nat.sub_zero, ha s h]) (fun s _ => by
      rw [Nat.min_eq_left (by omega : 1 ≤ s + 1)]; unfold weighted
      rw [range_one, sum_singleton, Nat.sub_zero, range_zero, prod_empty, EReal.coe_one, one_mul]) s hs,
    Nat.min_eq_right (by simp [hops]; omega)]

/-- Doubling steps, from running `or`s over `K` places. -/
theorem anyScan_window (P : ℕ → Prop) [DecidablePred P] (r c : Fin 8) : ∀ (hs : List Hop) (K : ℕ) (u : IVec S8x1600 32), Doubles K hs →
    (∀ s < 200, (lineW u r c s = 1#32 ↔ ∃ q < min K (s + 1), P (s - q)) ∧ (lineW u r c s = 0#32 ∨ lineW u r c s = 1#32)) →
    ∀ s < 200, (lineW (anyScan hs u) r c s = 1#32 ↔ ∃ q < min (K * 2 ^ hs.length) (s + 1), P (s - q))
      ∧ (lineW (anyScan hs u) r c s = 0#32 ∨ lineW (anyScan hs u) r c s = 1#32)
  | [], K, u, _, hu, s, hs => by rw [List.length_nil, pow_zero, mul_one]; exact hu s hs
  | h :: t, K, u, ⟨⟨e, h1, h2⟩, hd⟩, hu, s, hs => by
    rw [List.length_cons, pow_succ', ← mul_assoc, mul_two]
    refine anyScan_window P r c t (K + K) _ hd (any_step P _ _ K hu fun s hs => ?_) s hs
    rw [lineW_or _ _ _ _ _ hs]
    refine congrArg _ ((hop_line h (e ▸ h1) h2 0#32 u r c s hs).trans ?_)
    rw [e]; rfl

/-- The running `or` of a row of words that are 0 or 1. -/
theorem anyScan_line (u : IVec S8x1600 32) (r c : Fin 8) (P : ℕ → Prop) [DecidablePred P]
    (hu : ∀ s < 200, (lineW u r c s = 1#32 ↔ P s) ∧ (lineW u r c s = 0#32 ∨ lineW u r c s = 1#32)) (s : Nat) (hs : s < 200) :
    (lineW (anyScan hops u) r c s = 1#32 ↔ ∃ j ≤ s, P j) ∧ (lineW (anyScan hops u) r c s = 0#32 ∨ lineW (anyScan hops u) r c s = 1#32) := by
  have h := anyScan_window P r c hops 1 u hops_double (fun s h => by
    refine ⟨(hu s h).1.trans ⟨fun hp => ⟨0, by omega, hp⟩, ?_⟩, (hu s h).2⟩
    rintro ⟨q, hq, hp⟩
    rwa [show q = 0 by omega] at hp) s hs
  rw [Nat.min_eq_right (by simp [hops]; omega)] at h
  refine ⟨h.1.trans ⟨?_, ?_⟩, h.2⟩
  · rintro ⟨q, hq, hp⟩
    exact ⟨s - q, by omega, hp⟩
  · rintro ⟨j, hj, hp⟩
    exact ⟨s - j, by omega, by rwa [Nat.sub_sub_self hj]⟩

end Cert.Body
-- ==== Proof.Spec.lean ====
/-
  What kernel and reference both compute, one sequence at a time: the tokens and the values of a sequence give, at each
  of its places, two tokens and two positions; those give rows of the tables and sinusoids; and these are projected.
-/
module

public import Idealize.ShloMosaic.PureOps.Ideal
public import Idealize.ShloMosaic.Lib.ValueIdx

@[expose] public section

noncomputable section

namespace Cert.Spec

open Idealize.ShloMosaic Finset Classical

/-- The number that a float word stands for. -/
abbrev num (w : BitVec 32) : EReal := Ideal.ofBits .f32 w

/-- The bit of a special token. -/
def special (w : BitVec 32) : BitVec 1 := IntOp.cmpi .sle w 4#32

/-- The token clipped to the table of five. -/
def clipTok (w : BitVec 32) : BitVec 32 := Scalar.select (special w) w 4#32

/-- The value, with zero at the special tokens. -/
def clipVal (w : BitVec 32) (x : EReal) : EReal := Scalar.select (special w) 0 x

/-- The bit of a special token that is neither start nor end. -/
def breaks (w : BitVec 32) : BitVec 1 := IntOp.andi (IntOp.andi (special w) (IntOp.cmpi .ne w 2#32)) (IntOp.cmpi .ne w 3#32)

/-- A break at or before place `s`. -/
def Unk (tok : ℕ → BitVec 32) (s : ℕ) : Prop := ∃ j ≤ s, breaks (tok j) = 1#1

/-- The known position: the running sum of the values, zero from the first break on. -/
def posKnown (tok : ℕ → BitVec 32) (val : ℕ → EReal) (s : ℕ) : EReal :=
  if Unk tok s then 0 else ∑ j ∈ range (s + 1), clipVal (tok j) (val j)

/-- The known token: masked from the first break on. -/
def tokKnown (tok : ℕ → BitVec 32) (s : ℕ) : BitVec 32 :=
  if Unk tok s ∧ clipTok (tok s) = 4#32 then 1#32 else clipTok (tok s)

/-- The smallest magnitude. -/
def eps : EReal := num 0x358637BD#32

/-- The sign of a value, as a number. -/
def sgn (x : EReal) : EReal := Scalar.select (Ideal.cmp .olt x 0) (num 0xBF800000#32) (num 0x3F800000#32)

/-- The magnitude of a value, raised to the smallest. -/
def mag (x : EReal) : EReal := max (max x (-x)) eps

/-- The logarithm of the recurrence's coefficient. -/
def logCoef (w : BitVec 32) : ℝ := if breaks w = 1#1 then Real.log eps.toReal else 0

/-- Rounding to four places. -/
def round4 (x : EReal) : EReal := Ideal.div (Ideal.liftRound Ideal.roundHalfEven (x * num 0x461C4000#32)) (num 0x461C4000#32)

/-- The position within the interval. -/
def posInt (tok : ℕ → BitVec 32) (val : ℕ → EReal) (s : ℕ) : EReal :=
  round4 (∑ j ∈ range (s + 1),
    ((Real.exp (∑ i ∈ range (s + 1), logCoef (tok i) - ∑ i ∈ range (j + 1), logCoef (tok i)) : ℝ) : EReal)
      * (sgn (clipVal (tok j) (val j)) * mag (clipVal (tok j) (val j))))

/-- A frequency of the sinusoid. -/
def freq (i : ℕ) : EReal :=
  Ideal.exp (Ideal.div (-(Ideal.log (num 0x461C4000#32)) * (((BitVec.ofNat 32 i).toInt : ℝ) : EReal)) (num 0x42000000#32))

/-- One turn, in radians, undone. -/
def perTurn : EReal := (((2 * Real.pi)⁻¹ : ℝ) : EReal)

/-- The fractional part of a number of turns. -/
def frac (x : EReal) : EReal := x - Ideal.liftRound Ideal.roundHalfEven x

/-- The odd polynomial. -/
def sinPoly (u : EReal) : EReal :=
  u * (num 0x40C90745#32 + u * u * (num 0xC224D2B6#32 + u * u * (num 0x429DA736#32 + u * u * num 0xC26889F7#32)))

/-- The even polynomial. -/
def cosPoly (u : EReal) : EReal :=
  num 0x3F7FA210#32 + u * u * (num 0xC19C6BF8#32 + u * u * (num 0x42746DA7#32 + u * u * num 0xC26E5180#32))

/-- Entry `j` of the sinusoid of position `x`: 32 sines and 32 cosines. -/
def wave (x : EReal) (j : ℕ) : EReal :=
  if j < 32 then sinPoly (frac (x * freq j * perTurn)) else cosPoly (frac (x * freq (j - 32) * perTurn))

/-- A row of a table by its token. -/
def entry (E : Fin 5 → Fin 64 → EReal) (w : BitVec 32) (j : Fin 64) : EReal := if h : w.toNat < 5 then E ⟨w.toNat, h⟩ j else 0

/-- The projection of four quarters, each a row of a table and a sinusoid. -/
def out (E : Fin 4 → Fin 5 → Fin 64 → EReal) (wv : Fin 4 → ℕ → EReal) (t : Fin 4 → BitVec 32) (w : Fin 4 → Fin 64 → EReal) : EReal :=
  ∑ q : Fin 4, ∑ j : Fin 64, (entry (E q) (t q) j + wv q j) * w q j

end Cert.Spec
-- ==== Proof.Consts.lean ====
/-
  The numbers that the float words of the two programs stand for.
-/
module

public import proofs.«01_k».proof.Proof.Spec
public import Idealize.ShloMosaic.Lib.IdealHost
public import Idealize.ShloMosaic.PureOps.Ideal.Laws

@[expose] public section

noncomputable section

namespace Cert.Spec

open Idealize.ShloMosaic

theorem num_eps : num 0x358637BD#32 = ((8796093 / 8796093022208 : ℝ) : EReal) := by
  simp [num, Ideal.ofBits, Ideal.ieee, ← EReal.coe_mul, -EReal.coe_mul, -EReal.coe_neg]; norm_num

theorem num_ten_thousand : num 0x461C4000#32 = ((10000 : ℝ) : EReal) := by
  simp [num, Ideal.ofBits, Ideal.ieee, ← EReal.coe_mul, -EReal.coe_mul, -EReal.coe_neg]; norm_num

theorem num_thirty_two : num 0x42000000#32 = ((32 : ℝ) : EReal) := by
  simp [num, Ideal.ofBits, Ideal.ieee, ← EReal.coe_mul, -EReal.coe_mul, -EReal.coe_neg]; norm_num

theorem num_eight : num 0x41000000#32 = ((8 : ℝ) : EReal) := by
  simp [num, Ideal.ofBits, Ideal.ieee, ← EReal.coe_mul, -EReal.coe_mul, -EReal.coe_neg]; norm_num

theorem num_tol : num 0x3B000000#32 = ((1 / 512 : ℝ) : EReal) := by
  simp [num, Ideal.ofBits, Ideal.ieee, ← EReal.coe_mul, -EReal.coe_mul, -EReal.coe_neg]; norm_num

theorem num_neg_one : num 0xBF800000#32 = ((-1 : ℝ) : EReal) := by
  simp [num, Ideal.ofBits, Ideal.ieee, ← EReal.coe_mul, -EReal.coe_mul, -EReal.coe_neg]; norm_num

theorem num_s0 : num 0x40C90745#32 = ((13174597 / 2097152 : ℝ) : EReal) := by
  simp [num, Ideal.ofBits, Ideal.ieee, ← EReal.coe_mul, -EReal.coe_mul, -EReal.coe_neg]; norm_num

theorem num_s1 : num 0xC224D2B6#32 = ((-5400923 / 131072 : ℝ) : EReal) := by
  simp [num, Ideal.ofBits, Ideal.ieee, ← EReal.coe_mul, -EReal.coe_mul, -EReal.coe_neg]; norm_num

theorem num_s2 : num 0x429DA736#32 = ((5165979 / 65536 : ℝ) : EReal) := by
  simp [num, Ideal.ofBits, Ideal.ieee, ← EReal.coe_mul, -EReal.coe_mul, -EReal.coe_neg]; norm_num

theorem num_s3 : num 0xC26889F7#32 = ((-15239671 / 262144 : ℝ) : EReal) := by
  simp [num, Ideal.ofBits, Ideal.ieee, ← EReal.coe_mul, -EReal.coe_mul, -EReal.coe_neg]; norm_num

theorem num_c0 : num 0x3F7FA210#32 = ((1047073 / 1048576 : ℝ) : EReal) := by
  simp [num, Ideal.ofBits, Ideal.ieee, ← EReal.coe_mul, -EReal.coe_mul, -EReal.coe_neg]; norm_num

theorem num_c1 : num 0xC19C6BF8#32 = ((-1281407 / 65536 : ℝ) : EReal) := by
  simp [num, Ideal.ofBits, Ideal.ieee, ← EReal.coe_mul, -EReal.coe_mul, -EReal.coe_neg]; norm_num

theorem num_c2 : num 0x42746DA7#32 = ((16018855 / 262144 : ℝ) : EReal) := by
  simp [num, Ideal.ofBits, Ideal.ieee, ← EReal.coe_mul, -EReal.coe_mul, -EReal.coe_neg]; norm_num

theorem num_c3 : num 0xC26E5180#32 = ((-122019 / 2048 : ℝ) : EReal) := by
  simp [num, Ideal.ofBits, Ideal.ieee, ← EReal.coe_mul, -EReal.coe_mul, -EReal.coe_neg]; norm_num

theorem num_one : num 0x3F800000#32 = 1 := Idealize.ShloMosaic.Ideal.ofBits_one_f32

theorem num_zero : num 0x00000000#32 = 0 := Idealize.ShloMosaic.Ideal.ofBits_zero_f32

/-- The smallest magnitude is a positive real. -/
theorem eps_pos : 0 < eps.toReal := by rw [eps, num_eps, EReal.toReal_coe]; norm_num

theorem eps_coe : eps = (eps.toReal : EReal) := by rw [eps, num_eps, EReal.toReal_coe]

theorem eps_le_one : eps.toReal ≤ 1 := by rw [eps, num_eps, EReal.toReal_coe]; norm_num

end Cert.Spec
-- ==== Proof.Result.lean ====
/-
  The result of kernel and reference, entry by entry, as a function of the arguments.
-/
module

public import proofs.«01_k».proof.Proof.Consts
public import Idealize.ShloMosaic.Lib.Pointwise

@[expose] public section

noncomputable section

namespace Cert.Spec

open Idealize.ShloMosaic

/-- Masking a clipped token by a bit is the choice that the known token makes. -/
theorem select_known (b : BitVec 1) (w : BitVec 32) (c : Prop) {dec : Decidable c} (hc : c ↔ b = 1#1 ∧ w = 4#32) :
    Scalar.select (IntOp.andi b (IntOp.cmpi .eq w 4#32)) 1#32 w = if c then 1#32 else w := by
  have e : IntOp.cmpi .eq w 4#32 = BitVec.ofBool (decide (w = 4#32)) := rfl
  have key : IntOp.andi b (IntOp.cmpi .eq w 4#32) = 1#1 ↔ b = 1#1 ∧ w = 4#32 := by
    clear hc
    rw [e]
    by_cases hw : w = 4#32
    · rw [decide_eq_true hw]; revert b; simp [hw]; decide
    · rw [decide_eq_false hw]; revert b; simp [hw]; decide
  unfold Scalar.select
  by_cases h : c
  · exact (if_pos (key.2 (hc.1 h))).trans (if_pos h).symm
  · exact (if_neg (fun hk => h (hc.2 (key.1 hk)))).trans (if_neg h).symm

/-- The tokens of dimension `d` of sequence `b`, by their time. -/
def tokOf (T : IVec ⟨3, ![1024, 200, 2]⟩ 32) (b : Fin 1024) (d : Fin 2) (s : ℕ) : BitVec 32 := if h : s < 200 then T (ix3 b ⟨s, h⟩ d) else 0

/-- The values of dimension `d` of sequence `b`, by their time. -/
def valOf (V : FVec Ideal ⟨3, ![1024, 200, 2]⟩ .f32) (b : Fin 1024) (d : Fin 2) (s : ℕ) : EReal := if h : s < 200 then V (ix3 b ⟨s, h⟩ d) else 0

/-- The dimension that a quarter embeds. -/
def dimOf (q : ℕ) : Fin 2 := ⟨q % 2, Nat.mod_lt _ (by omega)⟩

/-- The position that a quarter embeds: the known one in the first two, the one within the interval in the others. -/
def posOf (T : IVec ⟨3, ![1024, 200, 2]⟩ 32) (V : FVec Ideal ⟨3, ![1024, 200, 2]⟩ .f32) (b : Fin 1024) (s q : ℕ) : EReal :=
  if q < 2 then posKnown (tokOf T b (dimOf q)) (valOf V b (dimOf q)) s else posInt (tokOf T b (dimOf q)) (valOf V b (dimOf q)) s

/-- The token that a quarter embeds. -/
def tokenOf (T : IVec ⟨3, ![1024, 200, 2]⟩ 32) (b : Fin 1024) (s q : ℕ) : BitVec 32 :=
  if q < 2 then tokKnown (tokOf T b (dimOf q)) s else clipTok (tokOf T b (dimOf q) s)

/-- The table that a quarter embeds by. -/
def tableOf (ea eb : FVec Ideal ⟨2, ![5, 64]⟩ .f32) (q : ℕ) : FVec Ideal ⟨2, ![5, 64]⟩ .f32 := if q % 2 = 0 then ea else eb

/-- The result at sequence `b`, time `s` and entry `n`, for a sinusoid `wv`. -/
def result (wv : EReal → ℕ → EReal) (T : IVec ⟨3, ![1024, 200, 2]⟩ 32) (V : FVec Ideal ⟨3, ![1024, 200, 2]⟩ .f32)
    (ea eb : FVec Ideal ⟨2, ![5, 64]⟩ .f32) (W : FVec Ideal ⟨2, ![512, 256]⟩ .f32) (b : Fin 1024) (s : ℕ) (n : Fin 512) : EReal :=
  out (fun q k j => tableOf ea eb q.val (ix2 k j)) (fun q => wv (posOf T V b s q.val)) (fun q => tokenOf T b s q.val)
    (fun q j => W (ix2 n ⟨64 * q.val + j.val, by omega⟩))

/-- A token that is not negative, clipped, numbers a row of its table. -/
theorem clipTok_lt (w : BitVec 32) (h : 0 ≤ w.toInt) : (clipTok w).toNat < 5 := by
  have e : special w = BitVec.ofBool (decide (w.toInt ≤ 4)) := by
    show BitVec.ofBool (w.sle 4#32) = _
    rw [BitVec.sle]; rfl
  unfold clipTok Scalar.select
  rw [e]
  by_cases h4 : w.toInt ≤ 4
  · rw [decide_eq_true h4]
    refine lt_of_eq_of_lt (congrArg BitVec.toNat (if_pos rfl)) ?_
    have := BitVec.toInt_eq_toNat_cond w
    split at this <;> omega
  · rw [decide_eq_false h4]
    exact lt_of_eq_of_lt (congrArg BitVec.toNat (if_neg (by decide))) (by decide)

theorem tokenOf_lt (T : IVec ⟨3, ![1024, 200, 2]⟩ 32) (hT : ∀ i, 0 ≤ (T i).toInt) (b : Fin 1024) (s q : ℕ) : (tokenOf T b s q).toNat < 5 := by
  have h : ∀ d j, (clipTok (tokOf T b d j)).toNat < 5 := by
    intro d j
    refine clipTok_lt _ ?_
    unfold tokOf
    split
    · exact hT _
    · decide
  unfold tokenOf
  split
  · unfold tokKnown
    split
    · decide
    · exact h _ _
  · exact h _ _

end Cert.Spec
-- ==== Proof.KSpec.lean ====
/-
  What one block of the kernel reads off its scans, place by place.
-/
module

public import proofs.«01_k».proof.Proof.Scan
public import proofs.«01_k».proof.Proof.Result

@[expose] public section

noncomputable section

namespace Cert.Body

open Cert.KernelIdeal Cert.KernelIdeal.Gen Cert.ScanMath Idealize.ShloMosaic Finset

/-- The tokens clipped, place by place. -/
theorem tokClip_apply (t : IVec S8x1600 32) (i : S8x1600.Idx) : tokClip t i = Spec.clipTok (t i) := rfl

/-- The values at the ordinary tokens, place by place. -/
theorem valClip_apply (t : IVec S8x1600 32) (v : FVec Ideal S8x1600 .f32) (i : S8x1600.Idx) : valClip t v i = Spec.clipVal (t i) (v i) := by
  show Scalar.select _ (Spec.num 0x00000000#32) _ = _
  rw [Spec.num_zero]; rfl

theorem isBreak_apply (t : IVec S8x1600 32) (i : S8x1600.Idx) : isBreak t i = Spec.breaks (t i) := rfl

/-- A bit widened to a word is 0 or 1, and 1 where the bit is. -/
theorem setWidth_bit (b : BitVec 1) : (b.setWidth 32 = 1#32 ↔ b = 1#1) ∧ (b.setWidth 32 = 0#32 ∨ b.setWidth 32 = 1#32) := by
  revert b; decide

/-- The mask of the places after a break. -/
theorem isUnk_place (t : IVec S8x1600 32) (r c : Fin 8) (s : Nat) (hs : s < 200) :
    isUnk t (ix2 r (place c s hs)) = 1#1 ↔ Spec.Unk (lineW t r c) s := by
  classical
  have h := anyScan_line (extui 32 (isBreak t) natLt_1_32) r c (fun j => Spec.breaks (lineW t r c j) = 1#1) (fun s hs => by
    rw [lineW_of_lt _ _ _ _ hs, lineW_of_lt _ _ _ _ hs]
    exact setWidth_bit _) s hs
  rw [lineW_of_lt _ _ _ _ hs] at h
  refine Iff.trans ?_ h.1
  show IntOp.cmpi .sgt (anyScan hops (extui 32 (isBreak t) natLt_1_32) (ix2 r (place c s hs))) 0#32 = 1#1 ↔ _
  rcases h.2 with h0 | h0 <;> rw [h0] <;> decide

/-- The known position at a place. -/
theorem posKnown_place (t : IVec S8x1600 32) (v : FVec Ideal S8x1600 .f32) (r c : Fin 8) (s : Nat) (hs : s < 200) :
    posKnown t v (ix2 r (place c s hs)) = Spec.posKnown (lineW t r c) (lineE v r c) s := by
  show Scalar.select (isUnk t (ix2 r (place c s hs))) (Spec.num 0x00000000#32) (sumScan hops (valClip t v) (ix2 r (place c s hs))) = _
  have h := sumScan_line (valClip t v) r c s hs
  rw [lineE_of_lt _ _ _ _ hs] at h
  rw [Spec.num_zero, h]
  have hsum : ∑ j ∈ range (s + 1), lineE (valClip t v) r c j = ∑ j ∈ range (s + 1), Spec.clipVal (lineW t r c j) (lineE v r c j) :=
    sum_congr rfl fun j hj => by
      have : j < 200 := by have := mem_range.1 hj; omega
      rw [lineE_of_lt _ _ _ _ this, lineE_of_lt _ _ _ _ this, lineW_of_lt _ _ _ _ this]; exact valClip_apply _ _ _
  unfold Spec.posKnown Scalar.select
  simp only [← isUnk_place t r c s hs, hsum]; rfl

/-- The known token at a place. -/
theorem tokKnown_place (t : IVec S8x1600 32) (r c : Fin 8) (s : Nat) (hs : s < 200) :
    tokKnown t (ix2 r (place c s hs)) = Spec.tokKnown (lineW t r c) s := by
  show Scalar.select (IntOp.andi (isUnk t (ix2 r (place c s hs))) (IntOp.cmpi .eq (tokClip t (ix2 r (place c s hs))) 4#32)) 1#32
    (tokClip t (ix2 r (place c s hs))) = _
  unfold Spec.tokKnown
  rw [lineW_of_lt _ _ _ _ hs, ← isUnk_place t r c s hs, tokClip_apply]
  generalize Spec.clipTok (t (ix2 r (place c s hs))) = w
  generalize isUnk t (ix2 r (place c s hs)) = b
  exact Spec.select_known b w _ Iff.rfl

/-- The coefficient of the recurrence at a place is the exponential of its logarithm. -/
theorem coeff_apply (t : IVec S8x1600 32) (i : S8x1600.Idx) : coeff t i = ((Real.exp (Spec.logCoef (t i)) : ℝ) : EReal) := by
  show Scalar.select (Spec.breaks (t i)) Spec.eps (Spec.num 0x3F800000#32) = _
  unfold Scalar.select Spec.logCoef
  by_cases h : Spec.breaks (t i) = 1#1
  · rw [if_pos h, Real.exp_log Spec.eps_pos, ← Spec.eps_coe]
    exact if_pos h
  · rw [if_neg h, Real.exp_zero, EReal.coe_one, ← Spec.num_one]
    exact if_neg h

theorem inhom_apply (x : FVec Ideal S8x1600 .f32) (i : S8x1600.Idx) : inhom x i = Spec.sgn (x i) * Spec.mag (x i) := by
  show Scalar.select (Ideal.cmp .olt (x i) (Spec.num 0x00000000#32)) _ _ * _ = _
  rw [Spec.num_zero]; rfl

/-- The position within the interval at a place. -/
theorem posInt_place (t : IVec S8x1600 32) (v : FVec Ideal S8x1600 .f32) (r c : Fin 8) (s : Nat) (hs : s < 200) :
    posInt t v (ix2 r (place c s hs)) = Spec.posInt (lineW t r c) (lineE v r c) s := by
  show Spec.round4 ((affScan hops (coeff t, inhom (valClip t v))).2 (ix2 r (place c s hs))) = Spec.round4 _
  refine congrArg Spec.round4 ?_
  rw [← lineE_of_lt (affScan hops (coeff t, inhom (valClip t v))).2 r c s hs, affScan_line (coeff t) (inhom (valClip t v)) r c (fun j => Real.exp (Spec.logCoef (lineW t r c j)))
    (fun j => (Real.exp_pos _).le) (fun s hs => by rw [lineE_of_lt _ _ _ _ hs, lineW_of_lt _ _ _ _ hs, coeff_apply]) s hs, weighted_eq]
  refine sum_congr rfl fun j hj => congrArg _ ?_
  have hj : j < 200 := by have := mem_range.1 hj; omega
  rw [lineE_of_lt _ _ _ _ hj, lineE_of_lt _ _ _ _ hj, lineW_of_lt _ _ _ _ hj, inhom_apply, valClip_apply]

end Cert.Body
-- ==== Proof.Project.lean ====
/-
  The projection of the features of one place: 256 entries of sinusoids and four indicators of table rows, against
  weights that carry the tables folded through the projection below the projection itself.
-/
module

public import proofs.«01_k».proof.Proof.Spec
public import Mathlib.Algebra.BigOperators.Fin

@[expose] public section

noncomputable section

namespace Cert.Spec

open Idealize.ShloMosaic Finset

/-- A sum over blocks of equal length. -/
theorem sum_blocks {m n : ℕ} (f : ℕ → EReal) : ∑ x : Fin (m * n), f x.val = ∑ q : Fin m, ∑ j : Fin n, f (n * q.val + j.val) := by
  rw [← Fintype.sum_prod_type', ← finProdFinEquiv.sum_comp]
  refine Fintype.sum_congr _ _ fun x => congrArg f ?_
  simp [finProdFinEquiv, Nat.add_comm]

/-- The sum over the 276 features, quarter by quarter. -/
theorem sum_features (f : ℕ → EReal) :
    ∑ x : Fin 276, f x.val = ∑ q : Fin 4, (∑ j : Fin 64, f (64 * q.val + j.val) + ∑ k : Fin 5, f (256 + 5 * q.val + k.val)) := by
  rw [show (∑ x : Fin 276, f x.val) = ∑ x : Fin (256 + 20), f x.val from rfl, Fin.sum_univ_add, sum_add_distrib]
  refine congrArg₂ (· + ·) ?_ ?_
  · exact sum_blocks (m := 4) (n := 64) f
  · refine (sum_blocks (m := 4) (n := 5) (fun x => f (256 + x))).trans ?_
    simp only [Nat.add_assoc]

/-- A finite row of a table and any sinusoid distribute over a finite weight. -/
theorem add_mul_coe (e c : ℝ) (x : EReal) : ((e : EReal) + x) * (c : EReal) = (e : EReal) * c + x * c := by
  induction x using EReal.rec with
  | coe x => norm_cast; ring
  | top =>
    rcases lt_trichotomy c 0 with h | h | h
    · rw [EReal.coe_add_top, EReal.top_mul_coe_of_neg h, ← EReal.coe_mul, EReal.add_bot]
    · simp [h]
    · rw [EReal.coe_add_top, EReal.top_mul_coe_of_pos h, ← EReal.coe_mul, EReal.coe_add_top]
  | bot =>
    rcases lt_trichotomy c 0 with h | h | h
    · rw [EReal.add_bot, EReal.bot_mul_coe_of_neg h, ← EReal.coe_mul, EReal.coe_add_top]
    · simp [h]
    · rw [EReal.add_bot, EReal.bot_mul_coe_of_pos h, ← EReal.coe_mul, EReal.add_bot]

/-- The projection of features that are sinusoids and indicators, against the extended weights. -/
theorem sum_features_eq_out (E : Fin 4 → Fin 5 → Fin 64 → EReal) (wv : Fin 4 → ℕ → EReal) (t : Fin 4 → BitVec 32) (w : Fin 4 → Fin 64 → EReal)
    (hE : ∀ q k j, ∃ r : ℝ, E q k j = r) (hw : ∀ q j, ∃ r : ℝ, w q j = r) (ht : ∀ q, (t q).toNat < 5) (F G : ℕ → EReal)
    (hF : ∀ (q : Fin 4) (j : Fin 64), F (64 * q.val + j.val) = wv q j.val)
    (hF' : ∀ (q : Fin 4) (k : Fin 5), F (256 + 5 * q.val + k.val) = if (t q).toNat = k.val then 1 else 0)
    (hG : ∀ (q : Fin 4) (j : Fin 64), G (64 * q.val + j.val) = w q j)
    (hG' : ∀ (q : Fin 4) (k : Fin 5), G (256 + 5 * q.val + k.val) = ∑ j : Fin 64, E q k j * w q j) :
    ∑ x : Fin 276, F x.val * G x.val = out E wv t w := by
  rw [sum_features (fun x => F x * G x)]
  unfold out
  refine sum_congr rfl fun q _ => ?_
  have h5 : ∑ k : Fin 5, F (256 + 5 * q.val + k.val) * G (256 + 5 * q.val + k.val) = ∑ j : Fin 64, E q ⟨(t q).toNat, ht q⟩ j * w q j := by
    rw [sum_eq_single (⟨(t q).toNat, ht q⟩ : Fin 5)]
    · rw [hF', hG', if_pos rfl, one_mul]
    · intro k _ hk
      rw [hF', if_neg (fun h => hk (Fin.ext h.symm)), zero_mul]
    · intro h; exact absurd (mem_univ _) h
  rw [h5, ← sum_add_distrib]
  refine sum_congr rfl fun j _ => ?_
  obtain ⟨e, he⟩ := hE q ⟨(t q).toNat, ht q⟩ j
  obtain ⟨c, hc⟩ := hw q j
  rw [hF, hG, entry, dif_pos (ht q), he, hc, add_mul_coe, add_comm]

end Cert.Spec
-- ==== Proof.Block.lean ====
/-
  One block of the kernel's result, read at one of its entries.
-/
module

public import proofs.«01_k».proof.Proof.KSpec
public import proofs.«01_k».proof.Proof.Project

@[expose] public section

noncomputable section

namespace Cert.Body

open Cert.KernelIdeal Cert.KernelIdeal.Gen Idealize.ShloMosaic Finset

/-- Both branches of a choice agree with a value. -/
theorem dite_case {α : Type} {c : Prop} [Decidable c] {f : c → α} {g : ¬ c → α} {y : α} (hf : ∀ h, f h = y) (hg : ∀ h, g h = y) :
    (if h : c then f h else g h) = y := by
  by_cases h : c
  · rw [dif_pos h, hf]
  · rw [dif_neg h, hg]

/-- The fractional turn of a frequency at a place. -/
theorem turnFrac_apply (u : FVec Ideal S1x1600 .f32) (k : Fin 32) (p : Fin 1600) :
    turnFrac u (ix2 k p) = Spec.frac (u (ix2 0 p) * Spec.freq k.val * Spec.perTurn) := by
  have h : u (ix2 0 p) * Spec.freq k.val * Spec.perTurn = Spec.perTurn * Spec.freq k.val * u (ix2 0 p) := by
    rw [mul_comm, ← mul_assoc, mul_right_comm]
  rw [h]
  unfold turnFrac freqTurns
  unfold_payloads
  pointwise
  rw [zero_sub]
  rfl

/-- The indicator of a token over the rows of its table. -/
theorem oneHot_apply (t : IVec S1x1600 32) (k : Fin 5) (i : Fin 1600) :
    oneHot t (ix2 k i) = if (t (ix2 0 i)).toNat = k.val then 1 else 0 := by
  have e : oneHot t (ix2 k i) = FloatOps.sitofp .f32 (BitVec.setWidth 32 (IntOp.cmpi .eq (t (ix2 0 i)) (BitVec.ofNat 32 k.val))) := by
    unfold oneHot rowIds
    pointwise
  have hk : (BitVec.ofNat 32 k.val).toNat = k.val := by rw [BitVec.toNat_ofNat, Nat.mod_eq_of_lt (by omega)]
  have hb : IntOp.cmpi .eq (t (ix2 0 i)) (BitVec.ofNat 32 k.val) = BitVec.ofBool (decide ((t (ix2 0 i)).toNat = k.val)) := by
    show BitVec.ofBool (decide (t (ix2 0 i) = BitVec.ofNat 32 k.val)) = _
    congr 2
    rw [← BitVec.toNat_inj, hk]
  rw [e, hb]
  by_cases h : (t (ix2 0 i)).toNat = k.val
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp

/-- What the features hold at a place: four sinusoids, and below them the indicators of four tokens. -/
def feature (p : ℕ → EReal) (t : ℕ → BitVec 32) (k : ℕ) : EReal :=
  if k < 256 then Spec.wave (p (k / 64)) (k % 64) else if (t ((k - 256) / 5)).toNat = (k - 256) % 5 then 1 else 0

set_option maxHeartbeats 2000000 in
theorem features_apply (p : ℕ → FVec Ideal S1x1600 .f32) (t : ℕ → IVec S1x1600 32) (k : Fin 276) (i : Fin 1600) :
    features (p 0) (p 1) (p 2) (p 3) (t 0) (t 1) (t 2) (t 3) (ix2 k i) = feature (fun q => p q (ix2 0 i)) (fun q => t q (ix2 0 i)) k.val := by
  have hs : ∀ (u : FVec Ideal S1x1600 .f32) (k : Fin 32), sinPart (turnFrac u) (ix2 k i) = Spec.wave (u (ix2 0 i)) k.val := by
    intro u k
    rw [Spec.wave, if_pos k.isLt, ← turnFrac_apply]; rfl
  have hc : ∀ (u : FVec Ideal S1x1600 .f32) (k : Fin 32), cosPart (turnFrac u) (ix2 k i) = Spec.wave (u (ix2 0 i)) (32 + k.val) := by
    intro u k
    rw [Spec.wave, if_neg (by omega), Nat.add_sub_cancel_left, ← turnFrac_apply]; rfl
  have hw : ∀ a b, k.val < 256 → k.val / 64 = a → k.val % 64 = b →
      Spec.wave (p a (ix2 0 i)) b = feature (fun q => p q (ix2 0 i)) (fun q => t q (ix2 0 i)) k.val := by
    rintro a b h rfl rfl
    rw [feature, if_pos h]
  have ho : ∀ a b, 256 ≤ k.val → (k.val - 256) / 5 = a → (k.val - 256) % 5 = b →
      (if (t a (ix2 0 i)).toNat = b then (1 : EReal) else 0) = feature (fun q => p q (ix2 0 i)) (fun q => t q (ix2 0 i)) k.val := by
    rintro a b h rfl rfl
    unfold feature
    rw [if_neg (show ¬ k.val < 256 by omega)]
  have hk := k.isLt
  unfold features
  pointwise
  repeat' refine dite_case (fun _ => ?_) fun _ => ?_
  all_goals first
    | refine (hs _ _).trans (hw _ _ ?_ ?_ ?_)
    | refine (hc _ _).trans (hw _ _ ?_ ?_ ?_)
    | refine (oneHot_apply _ _ _).trans (ho _ _ ?_ ?_ ?_)
  all_goals (try dsimp only)
  all_goals omega

/-- The extended weights, read in their top part. -/
theorem weights_top (w : FVec Ideal S256x512 .f32) (ea eb : FVec Ideal S5x64 .f32) (k : Fin 276) (hk : k.val < 256) (n : Fin 512) :
    weights w ea eb (ix2 k n) = w (ix2 ⟨k.val, hk⟩ n) := by
  unfold weights
  unfold_payloads
  pointwise
  rw [dif_pos hk]

/-- The extended weights, read below: a row of a table through its quarter of the projection. -/
theorem weights_low (w : FVec Ideal S256x512 .f32) (E : ℕ → FVec Ideal S5x64 .f32) (h0 : E 2 = E 0) (h1 : E 3 = E 1) (q : Fin 4) (k : Fin 5) (h) (n : Fin 512) :
    weights w (E 0) (E 1) (ix2 ⟨256 + 5 * q.val + k.val, h⟩ n) = ∑ j : Fin 64, E q.val (ix2 k j) * w (ix2 ⟨64 * q.val + j.val, by omega⟩ n) := by
  unfold weights
  unfold_payloads
  pointwise
  have key : ∀ (a b c : ℕ) (ha : a < 5) (hc : ∀ x : Fin 64, c + x.val < 256), q.val = b → k.val = a → 64 * q.val = c → ∀ e, E b = e →
      ∑ x : Fin 64, e (ix2 ⟨a, ha⟩ x) * w (ix2 ⟨c + x.val, hc x⟩ n)
        = ∑ j : Fin 64, E q.val (ix2 k j) * w (ix2 ⟨64 * q.val + j.val, by omega⟩ n) := by
    rintro a b c ha hc rfl rfl rfl e rfl
    rfl
  refine dite_case (fun _ => by omega) fun _ => dite_case (fun _ => ?_) fun _ => dite_case (fun _ => ?_) fun _ => dite_case (fun _ => ?_) fun _ => ?_
  · refine Eq.trans (sum_congr rfl fun x _ => ?_) (key _ 0 0 (by omega) (by omega) (by omega) (by omega) (by omega) (E 0) rfl)
    congr 3
    exact Fin.ext (Nat.zero_add _).symm
  · exact key _ 1 64 (by omega) (by omega) (by omega) (by omega) (by omega) (E 1) rfl
  · exact key _ 2 128 (by omega) (by omega) (by omega) (by omega) (by omega) (E 0) h0
  · exact key _ 3 192 (by omega) (by omega) (by omega) (by omega) (by omega) (E 1) h1

end Cert.Body
-- ==== Proof.Tile.lean ====
/-
  The block of the kernel's result, read at an entry from the block's tokens and values.
-/
module

public import proofs.«01_k».proof.Proof.Block
public import proofs.«01_k».proof.Proof.Result
public import Idealize.ShloMosaic.Lib.Pipeline.ValueKit.Geometry

@[expose] public section

noncomputable section

namespace Cert.Body

open Cert.KernelIdeal Cert.KernelIdeal.Gen Idealize.ShloMosaic Finset

/-- An entry of the projection of a row of the block. -/
def entryOf (W : FVec Ideal S276x512 .f32) (p : ℕ → FVec Ideal S8x1600 .f32) (t : ℕ → IVec S8x1600 32) (r : Fin 8) (i : Fin 1600) (n : Fin 512) : EReal :=
  ∑ x : Fin 276, feature (fun q => p q (ix2 r i)) (fun q => t q (ix2 r i)) x.val * W (ix2 x n)

/-- One row of the block, read. -/
theorem blockRow_apply (W : FVec Ideal S276x512 .f32) (p : ℕ → FVec Ideal S8x1600 .f32) (t : ℕ → IVec S8x1600 32) (r : Fin 8) (h) (b : Fin 8) (s : Fin 200)
    (n : Fin 512) : blockRow r.val h W (p 0) (p 1) (p 2) (p 3) (t 0) (t 1) (t 2) (t 3) (ix3 b s n) = entryOf W p t r (place b s.val s.isLt) n := by
  unfold blockRow rowOut
  pointwise
  unfold entryOf
  refine sum_congr rfl fun x _ => congrArg (· * _) ?_
  refine (features_apply (fun q => extractStridedSlice S1x1600 ![r.val, 0] (p q) h) (fun q => extractStridedSlice S1x1600 ![r.val, 0] (t q) h) x _).trans ?_
  refine congrArg₂ (fun P T => feature P T x.val) (funext fun q => ?_) (funext fun q => ?_)
  · pointwise
    exact congrArg (fun i => p q (ix2 r i)) (Fin.ext (by show b.val * 200 + s.val = 200 * b.val + s.val; omega))
  · pointwise
    exact congrArg (fun i => t q (ix2 r i)) (Fin.ext (by show b.val * 200 + s.val = 200 * b.val + s.val; omega))

/-- The block at an entry, by the row, the sequence and the time of the entry. -/
theorem block_apply (W : FVec Ideal S276x512 .f32) (p : ℕ → FVec Ideal S8x1600 .f32) (t : ℕ → IVec S8x1600 32) (y : S64x200x512.Idx) :
    block W (p 0) (p 1) (p 2) (p 3) (t 0) (t 1) (t 2) (t 3) y
      = entryOf W p t ⟨(y 0).val / 8, by have : (y 0).val < 64 := (y 0).isLt; omega⟩
          (place ⟨(y 0).val % 8, Nat.mod_lt _ (by omega)⟩ (y 1).val (y 1).isLt) (y 2) := by
  have row : ∀ (r : Fin 8) (h) (x : S8x200x512.Idx) (z : S64x200x512.Idx), (z 0).val = 8 * r.val + (x 0).val →
      (z 1).val = (x 1).val → (z 2).val = (x 2).val →
      blockRow r.val h W (p 0) (p 1) (p 2) (p 3) (t 0) (t 1) (t 2) (t 3) x
        = entryOf W p t ⟨(z 0).val / 8, by have : (z 0).val < 64 := (z 0).isLt; omega⟩
          (place ⟨(z 0).val % 8, Nat.mod_lt _ (by omega)⟩ (z 1).val (z 1).isLt) (z 2) := by
    intro r h x z h0 h1 h2
    obtain ⟨a, b, c, rfl⟩ : ∃ (a : Fin 8) (b : Fin 200) (c : Fin 512), x = ix3 a b c := ⟨x 0, x 1, x 2, by funext a; fin_cases a <;> rfl⟩
    have h0 : (z 0).val = 8 * r.val + a.val := h0
    have h1 : (z 1).val = b.val := h1
    have h2 : (z 2).val = c.val := h2
    rw [blockRow_apply]
    congr 1
    · exact Fin.ext (by show r.val = (z 0).val / 8; omega)
    · refine Fin.ext ?_
      show 200 * a.val + b.val = 200 * ((z 0).val % 8) + (z 1).val
      omega
    · exact Fin.ext h2.symm
  unfold block
  refine View.canon_apply_of_pieces (Val := Elt Ideal) (e := .f32) (fun y => entryOf W p t ⟨(y 0).val / 8, by have : (y 0).val < 64 := (y 0).isLt; omega⟩
          (place ⟨(y 0).val % 8, Nat.mod_lt _ (by omega)⟩ (y 1).val (y 1).isLt) (y 2)) _ ?_ y (cover0_7 _ _ _ _ _ _ _ _ y)
  simp only [List.forall_mem_cons, List.not_mem_nil, false_imp_iff, implies_true, and_true]
  refine ⟨fun x => row 7 _ x _ ?_ ?_ ?_, fun x => row 6 _ x _ ?_ ?_ ?_, fun x => row 5 _ x _ ?_ ?_ ?_, fun x => row 4 _ x _ ?_ ?_ ?_,
    fun x => row 3 _ x _ ?_ ?_ ?_, fun x => row 2 _ x _ ?_ ?_ ?_, fun x => row 1 _ x _ ?_ ?_ ?_, fun x => row 0 _ x _ ?_ ?_ ?_⟩
  all_goals exact (ValueKit.rect_emb_unit_val _ _ _ _ _).trans (by simp)

/-- The tokens at places of the block, quarter by quarter. -/
def tokens (t : ℕ → IVec S8x1600 32) (q : ℕ) : IVec S8x1600 32 := if q < 2 then tokKnown (t (q % 2)) else tokClip (t (q % 2))

/-- The positions at places of the block, quarter by quarter. -/
def positions (t : ℕ → IVec S8x1600 32) (v : ℕ → FVec Ideal S8x1600 .f32) (q : ℕ) : FVec Ideal S8x1600 .f32 :=
  if q < 2 then posKnown (t (q % 2)) (v (q % 2)) else posInt (t (q % 2)) (v (q % 2))

/-- Of two dimensions, the one asked for. -/
def pair {α : Type} (a b : α) (q : ℕ) : α := if q = 0 then a else b

/-- The block of two dimensions of tokens and values, at an entry. -/
theorem block_pair (W : FVec Ideal S276x512 .f32) (a0 a1 : IVec S8x1600 32) (v0 v1 : FVec Ideal S8x1600 .f32) (y : S64x200x512.Idx) :
    block W (posKnown a0 v0) (posKnown a1 v1) (posInt a0 v0) (posInt a1 v1) (tokKnown a0) (tokKnown a1) (tokClip a0) (tokClip a1) y
      = entryOf W (positions (pair a0 a1) (pair v0 v1)) (tokens (pair a0 a1)) ⟨(y 0).val / 8, by have : (y 0).val < 64 := (y 0).isLt; omega⟩
          (place ⟨(y 0).val % 8, Nat.mod_lt _ (by omega)⟩ (y 1).val (y 1).isLt) (y 2) := by
  rw [← block_apply]
  rfl

/-- An entry of the block, when its tokens and values at row `r` are those of sequence `b`. -/
theorem entryOf_eq (T : IVec ⟨3, ![1024, 200, 2]⟩ 32) (V : FVec Ideal ⟨3, ![1024, 200, 2]⟩ .f32) (ea eb : FVec Ideal S5x64 .f32)
    (W : FVec Ideal ⟨2, ![512, 256]⟩ .f32) (w : FVec Ideal S256x512 .f32) (hT : ∀ i, 0 ≤ (T i).toInt) (ha : ∀ i, ∃ r : ℝ, ea i = r)
    (hb : ∀ i, ∃ r : ℝ, eb i = r) (hW : ∀ i, ∃ r : ℝ, W i = r) (hw : ∀ k n, w (ix2 k n) = W (ix2 n k))
    (t : ℕ → IVec S8x1600 32) (v : ℕ → FVec Ideal S8x1600 .f32) (r c : Fin 8) (b : Fin 1024) (ht : ∀ q, lineW (t (q % 2)) r c = Spec.tokOf T b (Spec.dimOf q))
    (hv : ∀ q, lineE (v (q % 2)) r c = Spec.valOf V b (Spec.dimOf q)) (s : ℕ) (hs : s < 200) (n : Fin 512) :
    entryOf (weights w ea eb) (positions t v) (tokens t) r (place c s hs) n = Spec.result Spec.wave T V ea eb W b s n := by
  have hp : (fun q => positions t v q (ix2 r (place c s hs))) = Spec.posOf T V b s := by
    funext q
    unfold positions Spec.posOf
    rw [← ht, ← hv]
    split
    · exact posKnown_place _ _ _ _ _ _
    · exact posInt_place _ _ _ _ _ _
  have hq : (fun q => tokens t q (ix2 r (place c s hs))) = Spec.tokenOf T b s := by
    funext q
    unfold tokens Spec.tokenOf
    rw [← ht]
    split
    · exact tokKnown_place _ _ _ _ _
    · rw [tokClip_apply, lineW_of_lt _ _ _ _ hs]
  have hfin : ∀ q i, ∃ r : ℝ, Spec.tableOf ea eb q i = r := by
    intro q i
    unfold Spec.tableOf
    split
    · exact ha i
    · exact hb i
  have hr : ∀ k : Fin 276, weights w ea eb (ix2 k n) = (fun k => if h : k < 276 then weights w ea eb (ix2 ⟨k, h⟩ n) else 0) k.val :=
    fun k => by
    dsimp only
    rw [dif_pos k.isLt]
  unfold entryOf
  rw [hp, hq]
  refine (sum_congr rfl fun k _ => congrArg (_ * ·) (hr k)).trans ?_
  refine Spec.sum_features_eq_out (fun q k j => Spec.tableOf ea eb q.val (ix2 k j)) (fun q => Spec.wave (Spec.posOf T V b s q.val)) _ _
    (fun q k j => hfin _ _) (fun q j => hW _) (fun q => Spec.tokenOf_lt T hT b s q.val) (feature (Spec.posOf T V b s) (Spec.tokenOf T b s))
    (fun k => if h : k < 276 then weights w ea eb (ix2 ⟨k, h⟩ n) else 0) ?_ ?_ ?_ ?_
  · intro q j
    unfold feature
    rw [if_pos (by omega), show (64 * q.val + j.val) / 64 = q.val by omega, show (64 * q.val + j.val) % 64 = j.val by omega]
  · intro q k
    unfold feature
    rw [if_neg (by omega), show (256 + 5 * q.val + k.val - 256) / 5 = q.val by omega, show (256 + 5 * q.val + k.val - 256) % 5 = k.val by omega]
  · intro q j
    rw [dif_pos (by omega), weights_top w ea eb ⟨64 * q.val + j.val, by omega⟩ (by show 64 * q.val + j.val < 256; omega) n, hw]
  · intro q k
    rw [dif_pos (by omega)]
    refine (weights_low w (Spec.tableOf ea eb) rfl rfl q k (by omega) n).trans ?_
    exact sum_congr rfl fun j _ => by rw [hw]

end Cert.Body
-- ==== Proof.Kernel.lean ====
/-
  The kernel's result, entry by entry.
-/
module

public import proofs.«01_k».proof.Proof.Tile
public import Idealize.ShloMosaic.Lib.StableHlo

@[expose] public section

noncomputable section

namespace Cert.Body

open Cert.KernelIdeal Cert.KernelIdeal.Gen Idealize.ShloMosaic Idealize.ShloMosaic.TcCoe Finset

/-- The eight sequences of a row stand one after another, each in the order of time. -/
theorem repack {α : Type} (x : S1024x200x2.Idx → α) (d : Fin 2) (h) (R : Fin 128) (c : Fin 8) (s : ℕ) (hs : s < 200) :
    shapeCast S128x1600 (shapeCast S1024x200 (extractStridedSlice S1024x200x1 ![0, 0, d.val] x h) shapeCasts_S1024x200x1_S1024x200) shapeCasts_S1024x200_S128x1600
      (ix2 R (place c s hs)) = x (ix3 ⟨8 * R.val + c.val, by omega⟩ ⟨s, hs⟩ d) := by
  pointwise
  have hp : (place c s hs).val = 200 * c.val + s := rfl
  refine congrArg x (funext fun a => ?_)
  match a with
  | ⟨0, _⟩ => exact Fin.ext (by show R.val * 8 + (place c s hs).val / 200 = 8 * R.val + c.val; omega)
  | ⟨1, _⟩ => exact Fin.ext (by show (place c s hs).val % 200 = s; omega)
  | ⟨2, _⟩ => rfl

variable (m : (ℓ : Loc nD τ sig) → Buf (Elt Ideal) ℓ) (c : Dev nD)

/-- The tokens as launched. -/
abbrev argT : IVec S1024x200x2 32 := m ((c : Thread nD τ).loc main_arg0)
/-- The values as launched. -/
abbrev argV : FVec Ideal S1024x200x2 .f32 := m ((c : Thread nD τ).loc main_arg1)
/-- The first table as launched. -/
abbrev argA : FVec Ideal S5x64 .f32 := m ((c : Thread nD τ).loc main_arg2)
/-- The second table as launched. -/
abbrev argB : FVec Ideal S5x64 .f32 := m ((c : Thread nD τ).loc main_arg3)
/-- The projection as launched. -/
abbrev argW : FVec Ideal S512x256 .f32 := m ((c : Thread nD τ).loc main_arg4)

/-- One dimension of an array of sequences, its rows packed. -/
abbrev packed {α : Type} (x : S1024x200x2.Idx → α) (o : Nat) (h : S1024x200x2.Slices ![0, 0, o] S1024x200x1) : S128x1600.Idx → α :=
  shapeCast S128x1600 (shapeCast S1024x200 (extractStridedSlice S1024x200x1 ![0, 0, o] x h) shapeCasts_S1024x200x1_S1024x200) shapeCasts_S1024x200_S128x1600

theorem host_tok0 : V m c main_call0_v2 = packed (argT m c) 0 slices_S1024x200x2_S1024x200x1_0_0_0 := by
  unfold_abbrev_sides
  after_results
  rfl

theorem host_tok1 : V m c main_call0_v5 = packed (argT m c) 1 slices_S1024x200x2_S1024x200x1_0_0_1 := by
  unfold_abbrev_sides
  after_results
  rfl

theorem host_val0 : V m c main_call0_v8 = packed (argV m c) 0 slices_S1024x200x2_S1024x200x1_0_0_0 := by
  unfold_abbrev_sides
  after_results
  rfl

theorem host_val1 : V m c main_call0_v11 = packed (argV m c) 1 slices_S1024x200x2_S1024x200x1_0_0_1 := by
  unfold_abbrev_sides
  after_results
  rfl

theorem host_proj : V m c main_call0_v12 = transpose S256x512 [1, 0] (argW m c) transposes_S512x256_S256x512_1_0 := by
  unfold_abbrev_sides
  after_results
  rfl

/-- A window read whole is the window. -/
theorem whole_eq {e : EltTy} (x : Vec Ideal S8x1600 e) : whole x = x := by
  unfold whole
  refine (shapeCast_self _ _).trans ?_
  exact View.ld_unit_zero (by funext a; fin_cases a <;> rfl) _ x

theorem weights_eq (x0 x1 : Vec Ideal S8x1600 .i32) (x2 x3 : Vec Ideal S8x1600 .f32) (x4 x5 : Vec Ideal S5x64 .f32) (x6 : Vec Ideal S256x512 .f32) :
    k0_pay299 x0 x1 x2 x3 x4 x5 x6 = weights x6 x4 x5 := by
  have h6 : shapeCast S256x512 (View.ld x6 r0_1) shapeCasts_S256x512_S256x512 = x6 := by
    refine (shapeCast_self _ _).trans ?_
    exact View.ld_unit_zero (by funext a; fin_cases a <;> rfl) _ x6
  have h4 : View.ld x4 r0_2 = x4 := View.ld_unit_zero (by funext a; fin_cases a <;> rfl) _ x4
  have h5 : View.ld x5 r0_2 = x5 := View.ld_unit_zero (by funext a; fin_cases a <;> rfl) _ x5
  refine Eq.trans (b := weights (shapeCast S256x512 (View.ld x6 r0_1) shapeCasts_S256x512_S256x512) (View.ld x4 r0_2) (View.ld x5 r0_2)) rfl ?_
  rw [h6, h4, h5]

/-- Where the windows stand at each point. -/
theorem index_rows0 : ∀ t : Fin cfg0.N, win0_0.index t = ![t.val, 0] := (by decide +kernel : ∀ t : Fin grid0.N, _)
theorem index_rows1 : ∀ t : Fin cfg0.N, win0_1.index t = ![t.val, 0] := (by decide +kernel : ∀ t : Fin grid0.N, _)
theorem index_rows2 : ∀ t : Fin cfg0.N, win0_2.index t = ![t.val, 0] := (by decide +kernel : ∀ t : Fin grid0.N, _)
theorem index_rows3 : ∀ t : Fin cfg0.N, win0_3.index t = ![t.val, 0] := (by decide +kernel : ∀ t : Fin grid0.N, _)
theorem index_whole4 : ∀ t : Fin cfg0.N, win0_4.index t = ![0, 0] := (by decide +kernel : ∀ t : Fin grid0.N, _)
theorem index_whole5 : ∀ t : Fin cfg0.N, win0_5.index t = ![0, 0] := (by decide +kernel : ∀ t : Fin grid0.N, _)
theorem index_whole6 : ∀ t : Fin cfg0.N, win0_6.index t = ![0, 0] := (by decide +kernel : ∀ t : Fin grid0.N, _)
theorem index_out : ∀ t : Fin cfg0.N, win0_7.index t = ![t.val, 0, 0] := (by decide +kernel : ∀ t : Fin grid0.N, _)

/-- What the windows of the tokens and the values hold at a point: the rows of the point. -/
theorem block_tok0 (t : Fin cfg0.N) (r : Fin 8) (p : Fin 1600) (h) : (iblk m c 0 t : S8x1600.Idx → BitVec 32) (ix2 r p) = V m c main_call0_v2 (ix2 ⟨8 * t.val + r.val, h⟩ p) := by
  blk_simp [iblk]
  exact congrArg (V m c main_call0_v2) (by blk_ext [index_rows0])
theorem block_tok1 (t : Fin cfg0.N) (r : Fin 8) (p : Fin 1600) (h) : (iblk m c 1 t : S8x1600.Idx → BitVec 32) (ix2 r p) = V m c main_call0_v5 (ix2 ⟨8 * t.val + r.val, h⟩ p) := by
  blk_simp [iblk]
  exact congrArg (V m c main_call0_v5) (by blk_ext [index_rows1])
theorem block_val0 (t : Fin cfg0.N) (r : Fin 8) (p : Fin 1600) (h) : (iblk m c 2 t : S8x1600.Idx → EReal) (ix2 r p) = V m c main_call0_v8 (ix2 ⟨8 * t.val + r.val, h⟩ p) := by
  blk_simp [iblk]
  exact congrArg (V m c main_call0_v8) (by blk_ext [index_rows2])
theorem block_val1 (t : Fin cfg0.N) (r : Fin 8) (p : Fin 1600) (h) : (iblk m c 3 t : S8x1600.Idx → EReal) (ix2 r p) = V m c main_call0_v11 (ix2 ⟨8 * t.val + r.val, h⟩ p) := by
  blk_simp [iblk]
  exact congrArg (V m c main_call0_v11) (by blk_ext [index_rows3])
/-- The windows of the tables and the projection hold them whole. -/
theorem block_tableA (t : Fin cfg0.N) : (iblk m c 4 t : S5x64.Idx → EReal) = argA m c := by
  funext i
  blk_simp [iblk]
  exact (congrArg (V m c main_arg2) (by blk_ext [index_whole4])).trans (congrFun (V_main_arg2 m c) i)
theorem block_tableB (t : Fin cfg0.N) : (iblk m c 5 t : S5x64.Idx → EReal) = argB m c := by
  funext i
  blk_simp [iblk]
  exact (congrArg (V m c main_arg3) (by blk_ext [index_whole5])).trans (congrFun (V_main_arg3 m c) i)
theorem block_proj (t : Fin cfg0.N) (k : Fin 256) (n : Fin 512) : (iblk m c 6 t : S256x512.Idx → EReal) (ix2 k n) = argW m c (ix2 n k) := by
  blk_simp [iblk]
  refine (congrArg (V m c main_call0_v12) (a₂ := ix2 k n) (by blk_ext [index_whole6])).trans ?_
  rw [host_proj]
  pointwise

/-- The tokens of the block at a row and a sequence. -/
def blockTok (t : Fin cfg0.N) (q : ℕ) : IVec S8x1600 32 := pair (iblk m c 0 t) (iblk m c 1 t) q
/-- The values of the block at a row and a sequence. -/
def blockVal (t : Fin cfg0.N) (q : ℕ) : FVec Ideal S8x1600 .f32 := pair (iblk m c 2 t) (iblk m c 3 t) q

theorem blockTok_line (t : Fin cfg0.N) (r k : Fin 8) (b : Fin 1024) (hb : b.val = 8 * (8 * t.val + r.val) + k.val) (q : ℕ) :
    lineW (blockTok m c t (q % 2)) r k = Spec.tokOf (argT m c) b (Spec.dimOf q) := by
  funext s
  unfold Spec.tokOf
  by_cases hs : s < 200
  · rw [lineW_of_lt _ _ _ _ hs, dif_pos hs]
    have ht : t.val < 16 := t.isLt
    have hi : (⟨8 * (8 * t.val + r.val) + k.val, by omega⟩ : Fin 1024) = b := Fin.ext hb.symm
    rcases Nat.mod_two_eq_zero_or_one q with h | h
    · have hd : Spec.dimOf q = 0 := Fin.ext h
      rw [h, hd]
      refine (block_tok0 m c t r _ (by omega)).trans ?_
      rw [host_tok0]
      exact (repack (argT m c) 0 slices_S1024x200x2_S1024x200x1_0_0_0 _ k s hs).trans (by rw [hi])
    · have hd : Spec.dimOf q = 1 := Fin.ext h
      rw [h, hd]
      refine (block_tok1 m c t r _ (by omega)).trans ?_
      rw [host_tok1]
      exact (repack (argT m c) 1 slices_S1024x200x2_S1024x200x1_0_0_1 _ k s hs).trans (by rw [hi])
  · rw [dif_neg hs]
    exact dif_neg hs

theorem blockVal_line (t : Fin cfg0.N) (r k : Fin 8) (b : Fin 1024) (hb : b.val = 8 * (8 * t.val + r.val) + k.val) (q : ℕ) :
    lineE (blockVal m c t (q % 2)) r k = Spec.valOf (argV m c) b (Spec.dimOf q) := by
  funext s
  unfold Spec.valOf
  by_cases hs : s < 200
  · rw [lineE_of_lt _ _ _ _ hs, dif_pos hs]
    have ht : t.val < 16 := t.isLt
    have hi : (⟨8 * (8 * t.val + r.val) + k.val, by omega⟩ : Fin 1024) = b := Fin.ext hb.symm
    rcases Nat.mod_two_eq_zero_or_one q with h | h
    · have hd : Spec.dimOf q = 0 := Fin.ext h
      rw [h, hd]
      refine (block_val0 m c t r _ (by omega)).trans ?_
      rw [host_val0]
      exact (repack (argV m c) 0 slices_S1024x200x2_S1024x200x1_0_0_0 _ k s hs).trans (by rw [hi])
    · have hd : Spec.dimOf q = 1 := Fin.ext h
      rw [h, hd]
      refine (block_val1 m c t r _ (by omega)).trans ?_
      rw [host_val1]
      exact (repack (argV m c) 1 slices_S1024x200x2_S1024x200x1_0_0_1 _ k s hs).trans (by rw [hi])
  · rw [dif_neg hs]
    exact dif_neg hs

/-- What a point writes, entry by entry. -/
theorem point_entry (hT : ∀ i, 0 ≤ (argT m c i).toInt) (ha : ∀ i, ∃ r : ℝ, argA m c i = r) (hb : ∀ i, ∃ r : ℝ, argB m c i = r) (hW : ∀ i, ∃ r : ℝ, argW m c i = r)
    (t : Fin cfg0.N) (y : S64x200x512.Idx) (z : S1024x200x512.Idx) (e0 : (z 0).val = 64 * t.val + (y 0).val) (e1 : (z 1).val = (y 1).val) (e2 : (z 2).val = (y 2).val) :
    out0_7 (F := Ideal) (iblk m c 0 t) (iblk m c 1 t) (iblk m c 2 t) (iblk m c 3 t) (iblk m c 4 t) (iblk m c 5 t) (iblk m c 6 t) y
      = Spec.result Spec.wave (argT m c) (argV m c) (argA m c) (argB m c) (argW m c) (z 0) (z 1).val (z 2) := by
  have hy : (y 0).val < 64 := (y 0).isLt
  rw [out_eq, weights_eq]
  simp only [whole_eq]
  rw [block_pair, e1, show z 2 = y 2 from Fin.ext e2]
  have h4 := block_tableA m c t
  have h5 := block_tableB m c t
  have h6 := block_proj m c t
  have hl := blockTok_line m c t
  have hv := blockVal_line m c t
  unfold blockTok at hl
  unfold blockVal at hv
  generalize (iblk m c 0 t) = x0 at hl ⊢
  generalize (iblk m c 1 t) = x1 at hl ⊢
  generalize (iblk m c 2 t) = x2 at hv ⊢
  generalize (iblk m c 3 t) = x3 at hv ⊢
  generalize (iblk m c 4 t) = x4 at h4 ⊢
  generalize (iblk m c 5 t) = x5 at h5 ⊢
  generalize (iblk m c 6 t) = x6 at h6 ⊢
  subst h4 h5
  exact entryOf_eq (argT m c) (argV m c) (argA m c) (argB m c) (argW m c) x6 hT ha hb hW h6 _ _ _ _ (z 0)
    (hl _ _ _ (by show (z 0).val = 8 * (8 * t.val + (y 0).val / 8) + (y 0).val % 8; omega))
    (hv _ _ _ (by show (z 0).val = 8 * (8 * t.val + (y 0).val / 8) + (y 0).val % 8; omega)) _ _ _

/-- The kernel's output array after the run. -/
theorem final (hT : ∀ i, 0 ≤ (argT m c i).toInt) (ha : ∀ i, ∃ r : ℝ, argA m c i = r) (hb : ∀ i, ∃ r : ℝ, argB m c i = r) (hW : ∀ i, ∃ r : ℝ, argW m c i = r) :
    (dats m 0 c).arrAt 7 cfg0.N = fun y : S1024x200x512.Idx => Spec.result Spec.wave (argT m c) (argV m c) (argA m c) (argB m c) (argW m c) (y 0) (y 1).val (y 2) := by
  refine (dats m 0 c).arrAt_eq_of_covers 7 _ (by decide +kernel) fun t hf y => ?_
  have e0 : ((((cfg0.win 7).blk t).view.emb y 0 : Fin _) : ℕ) = 64 * t.val + (y 0).val := by
    blk_simp [index_out]
    omega
  have e1 : ((((cfg0.win 7).blk t).view.emb y 1 : Fin _) : ℕ) = (y 1).val := by
    blk_simp [index_out]
  have e2 : ((((cfg0.win 7).blk t).view.emb y 2 : Fin _) : ℕ) = (y 2).val := by
    blk_simp [index_out]
  generalize ((cfg0.win 7).blk t).view.emb y = z at e0 e1 e2 ⊢
  blk_simp
  rw [after0_7]
  exact point_entry m c hT ha hb hW t y z e0 e1 e2

end Cert.Body
-- ==== Proof.RefScan.lean ====
/-
  The reference's running sums along time, which it writes as sums over windows of the whole length padded below.
-/
module

public import proofs.«01_k».proof.Proof.Consts
public import Idealize.ShloMosaic.Lib.Pointwise
public import Mathlib.Algebra.BigOperators.Fin
public import Mathlib.Data.BitVec

@[expose] public section

noncomputable section

namespace Cert.Ref

open Idealize.ShloMosaic Finset

/-- Adding up a list from the left is adding the sum of its terms. -/
theorem foldl_sum {α ι : Type*} [AddCommMonoid α] (g : ι → α) (l : List ι) (v : α) : l.foldl (fun r n => r + g n) v = v + (l.map g).sum := by
  induction l generalizing v with
  | nil => simp
  | cons a l ih => rw [List.foldl_cons, ih, List.map_cons, List.sum_cons, add_assoc]

/-- Entry `(b, s, d)` of a running sum along the middle axis: the sum of the entries up to time `s`. -/
theorem cum_apply {α : Type} [AddCommMonoid α] (x : (⟨3, ![1024, 200, 2]⟩ : Shape).Idx → α) (init : (⟨0, ![]⟩ : Shape).Idx → α)
    (hinit : ∀ i, init i = 0)
    (h : (⟨3, ![1024, 200, 2]⟩ : Shape).ReduceWindows (![1, 200, 1] : Fin 3 → Nat) ![1, 1, 1] ![0, 199, 0] ![0, 0, 0] ⟨3, ![1024, 200, 2]⟩)
    (hu : 0 < (⟨0, ![]⟩ : Shape).numel) (g : ℕ → α) (b : Fin 1024) (d : Fin 2) (hg : ∀ (j : ℕ) (hj : j < 200), x (ix3 b ⟨j, hj⟩ d) = g j) (s : Fin 200) :
    Host.reduceWindow (· + ·) ![1, 200, 1] ![1, 1, 1] ![0, 199, 0] ![0, 0, 0] x init h hu (ix3 b s d) = ∑ j ∈ range (s.val + 1), g j := by
  have hs := s.isLt
  unfold Host.reduceWindow
  dsimp only
  rw [hinit]
  refine (foldl_sum (α := α) _ _ _).trans ((zero_add _).trans ?_)
  rw [← Fin.sum_univ_def]
  refine (Fintype.sum_bijective (fun k : Fin 200 => (⟨3, ![1, 200, 1]⟩ : Shape).rowMajor (ix3 0 k 0)) ?_
    (fun k => if 199 ≤ s.val + k.val then g (s.val + k.val - 199) else 0) _ fun k => ?_).symm.trans ?_
  · refine (Equiv.bijective _).comp ⟨fun k l e => congrFun e 1, fun i => ⟨i 1, funext fun a => ?_⟩⟩
    match a with
    | ⟨0, _⟩ => exact Subsingleton.elim (α := Fin 1) _ _
    | ⟨1, _⟩ => rfl
    | ⟨2, _⟩ => exact Subsingleton.elim (α := Fin 1) _ _
  · have hk := k.isLt
    have hd := d.isLt
    have hb := b.isLt
    generalize hn : (⟨3, ![1, 200, 1]⟩ : Shape).rowMajor (ix3 0 k 0) = n
    have key : (⟨3, ![1, 200, 1]⟩ : Shape).rowMajor.symm n = ix3 0 k 0 := by rw [← hn, Equiv.symm_apply_apply]
    have w0 : ((⟨3, ![1, 200, 1]⟩ : Shape).rowMajor.symm n 0).val = 0 := by rw [key]; rfl
    have w1 : ((⟨3, ![1, 200, 1]⟩ : Shape).rowMajor.symm n 1).val = k.val := by rw [key]; rfl
    have w2 : ((⟨3, ![1, 200, 1]⟩ : Shape).rowMajor.symm n 2).val = 0 := by rw [key]; rfl
    by_cases hsk : 199 ≤ s.val + k.val
    · rw [if_pos hsk]
      refine Eq.symm ((dif_pos fun a => ?_).trans ?_)
      · match a with
        | ⟨0, _⟩ => show 0 ≤ b.val * 1 + ((⟨3, ![1, 200, 1]⟩ : Shape).rowMajor.symm n 0).val ∧ b.val * 1 + ((⟨3, ![1, 200, 1]⟩ : Shape).rowMajor.symm n 0).val - 0 < 1024; omega
        | ⟨1, _⟩ => show 199 ≤ s.val * 1 + ((⟨3, ![1, 200, 1]⟩ : Shape).rowMajor.symm n 1).val ∧ s.val * 1 + ((⟨3, ![1, 200, 1]⟩ : Shape).rowMajor.symm n 1).val - 199 < 200; omega
        | ⟨2, _⟩ => show 0 ≤ d.val * 1 + ((⟨3, ![1, 200, 1]⟩ : Shape).rowMajor.symm n 2).val ∧ d.val * 1 + ((⟨3, ![1, 200, 1]⟩ : Shape).rowMajor.symm n 2).val - 0 < 2; omega
      · refine (congrArg x (funext fun a => Fin.ext ?_)).trans (hg (s.val + k.val - 199) (by omega))
        match a with
        | ⟨0, _⟩ => show b.val * 1 + ((⟨3, ![1, 200, 1]⟩ : Shape).rowMajor.symm n 0).val - 0 = b.val; omega
        | ⟨1, _⟩ => show s.val * 1 + ((⟨3, ![1, 200, 1]⟩ : Shape).rowMajor.symm n 1).val - 199 = s.val + k.val - 199; omega
        | ⟨2, _⟩ => show d.val * 1 + ((⟨3, ![1, 200, 1]⟩ : Shape).rowMajor.symm n 2).val - 0 = d.val; omega
    · rw [if_neg hsk]
      refine Eq.symm ((dif_neg fun hin => hsk ?_).trans rfl)
      have h1 : 199 ≤ s.val * 1 + ((⟨3, ![1, 200, 1]⟩ : Shape).rowMajor.symm n 1).val := (hin 1).1
      omega
  · rw [← Finset.sum_range (fun k => if 199 ≤ s.val + k then g (s.val + k - 199) else 0), ← Finset.sum_filter]
    refine Finset.sum_nbij' (fun k => s.val + k - 199) (fun j => j + 199 - s.val) ?_ ?_ ?_ ?_ ?_
    all_goals intro k hk; simp only [Finset.mem_filter, Finset.mem_range] at hk ⊢
    all_goals first | omega | rfl

/-- The running count of bits is positive from the first set bit on. -/
theorem count_pos (f : ℕ → BitVec 1) (s : ℕ) (hs : s < 200) :
    IntOp.cmpi .sgt (∑ j ∈ range (s + 1), (f j).setWidth 32) 0#32 = 1#1 ↔ ∃ j ≤ s, f j = 1#1 := by
  have key : ∀ n ≤ 200, (∑ j ∈ range n, (f j).setWidth 32).toNat ≤ n ∧
      ((∑ j ∈ range n, (f j).setWidth 32).toNat ≠ 0 ↔ ∃ j < n, f j = 1#1) := by
    intro n
    induction n with
    | zero => intro _; simp
    | succ n ih =>
      intro hn
      obtain ⟨h1, h2⟩ := ih (by omega)
      rw [sum_range_succ, BitVec.toNat_add]
      have hb : (f n = 1#1 ∧ ((f n).setWidth 32).toNat = 1) ∨ (f n ≠ 1#1 ∧ ((f n).setWidth 32).toNat = 0) := by
        generalize f n = b
        revert b; decide
      have hex : (∃ j < n + 1, f j = 1#1) ↔ (∃ j < n, f j = 1#1) ∨ f n = 1#1 := by
        constructor
        · rintro ⟨j, hj, e⟩
          rcases Nat.lt_succ_iff_lt_or_eq.1 hj with h | h
          · exact Or.inl ⟨j, h, e⟩
          · exact Or.inr (h ▸ e)
        · rintro (⟨j, hj, e⟩ | e)
          · exact ⟨j, by omega, e⟩
          · exact ⟨n, by omega, e⟩
      rw [hex, ← h2]
      rcases hb with ⟨hb, hb'⟩ | ⟨hb, hb'⟩
      · rw [hb', Nat.mod_eq_of_lt (by omega)]
        exact ⟨by omega, fun _ => Or.inr hb, fun _ => by omega⟩
      · rw [hb', Nat.mod_eq_of_lt (by omega)]
        exact ⟨by omega, fun h => Or.inl (by omega), fun h => by rcases h with h | h; omega; exact absurd h hb⟩
  obtain ⟨h1, h2⟩ := key (s + 1) (by omega)
  have hlt : (∃ j ≤ s, f j = 1#1) ↔ ∃ j < s + 1, f j = 1#1 := by simp only [Nat.lt_succ_iff]
  rw [hlt, ← h2]
  generalize (∑ j ∈ range (s + 1), (f j).setWidth 32) = w at *
  have e : IntOp.cmpi .sgt w 0#32 = BitVec.ofBool (decide (0 < w.toInt)) := rfl
  have hi : w.toInt = (w.toNat : ℤ) := by
    rw [BitVec.toInt_eq_toNat_cond, if_pos (by omega)]
  rw [e, hi]
  by_cases h : w.toNat = 0
  · rw [h]; decide
  · rw [decide_eq_true (by omega)]; exact ⟨fun _ => h, fun _ => rfl⟩

end Cert.Ref
-- ==== Proof.RefParts.lean ====
/-
  The parts of the reference that it has once for each dimension: a row of a table by its token, and the sinusoid of a
  position. The reference's result is put together from these.
-/
module

public import proofs.«01_k».proof.Proof.Gen.ReferenceIdeal.Read

@[expose] public section

noncomputable section

namespace Cert.Ref

open Cert.ReferenceIdeal Cert.ReferenceIdeal.Gen Cert.ReferenceIdeal.Facts Idealize.ShloMosaic

/-- The index of a row, counted from the end where it is negative. -/
def wrap (w : IVec S1024x200 32) : IVec S1024x200x1 32 :=
  broadcastInDim S1024x200x1 ![0, 1] bcast_S1024x200_S1024x200x1_0_1
    (select (cmpi .slt w (broadcastInDim S1024x200 ![] bcast_S_S1024x200 (constantI S_ 32 0#32)))
      (addi w (broadcastInDim S1024x200 ![] bcast_S_S1024x200 (constantI S_ 32 5#32))) w)

/-- The mask of the rows that the table has. -/
def inTable (w : IVec S1024x200 32) : IVec S1024x200 1 :=
  Host.reduce IntOp.andi
    (andi (cmpi .sge (wrap w) (broadcastInDim S1024x200x1 ![] bcast_S_S1024x200x1 (constantI S_ 32 0#32)))
      (cmpi .sle (wrap w) (broadcastInDim S1024x200x1 ![0, 1, 2] bcast_S1x1x1_S1024x200x1_0_1_2
        (broadcastInDim S1x1x1 ![2] bcast_S1_S1x1x1_2 (constantI S1 32 4#32)))))
    (constantI S_ 1 1#1) reducesTo_S1024x200x1_S1024x200_d2 h_S_

/-- The rows of a table by their tokens. -/
def takeTab (w : IVec S1024x200 32) (E : FVec Ideal S5x64 .f32) : FVec Ideal S1024x200x64 .f32 :=
  select (broadcastInDim S1024x200x64 ![0, 1] bcast_S1024x200_S1024x200x64_0_1 (inTable w))
    (Host.gather gather_S5x64_S1024x200x1_S1024x200x64_2_0_n_n_0_2_164 E (wrap w))
    (broadcastInDim S1024x200x64 ![] bcast_S_S1024x200x64 (constant (F := Ideal) S_ .f32 0x7FC00000#32))

/-- The angles of the positions: each position times the 32 frequencies. -/
def angle (p : FVec Ideal S1024x200 .f32) : FVec Ideal S1024x200x32 .f32 :=
  mulf (broadcastInDim S1024x200x32 ![0, 1, 2] bcast_S1024x200x1_S1024x200x32_0_1_2
      (broadcastInDim S1024x200x1 ![0, 1] bcast_S1024x200_S1024x200x1_0_1 p))
    (broadcastInDim S1024x200x32 ![0, 1, 2] bcast_S1x1x32_S1024x200x32_0_1_2
      (broadcastInDim S1x1x32 ![2] bcast_S32_S1x1x32_2
        (Host.exp (Host.divf (mulf (broadcastInDim S32 ![] bcast_S_S32 (Host.negf (Host.log (constant (F := Ideal) S_ .f32 0x461C4000#32))))
          (sitofp .f32 (iotaInDim S32 32 0))) (broadcastInDim S32 ![] bcast_S_S32 (constant S_ .f32 0x42000000#32))))))

/-- An array of one number, as wide as the angles. -/
def all32 (w : BitVec 32) : FVec Ideal S1024x200x32 .f32 := broadcastInDim S1024x200x32 ![] bcast_S_S1024x200x32 (constant (F := Ideal) S_ .f32 w)

/-- The fraction of a turn of each angle. -/
def turn (p : FVec Ideal S1024x200 .f32) : FVec Ideal S1024x200x32 .f32 :=
  let q := Host.divf (angle p) (broadcastInDim S1024x200x32 ![] bcast_S_S1024x200x32
    (mulf (constant (F := Ideal) S_ .f32 0x41000000#32) (Host.atan (constant S_ .f32 0x3F800000#32))))
  subf q (Host.roundeven q)

/-- The sinusoid of the positions, by polynomials in the fraction of a turn. -/
def sinus (p : FVec Ideal S1024x200 .f32) : FVec Ideal S1024x200x64 .f32 :=
  let u := turn p
  let z := mulf u u
  concatenate S1024x200x64 2
    [⟨S1024x200x32, mulf u (addf (all32 0x40C90745#32) (mulf z (addf (all32 0xC224D2B6#32) (mulf z (addf (all32 0x429DA736#32) (mulf z (all32 0xC26889F7#32)))))))⟩,
     ⟨S1024x200x32, addf (all32 0x3F7FA210#32) (mulf z (addf (all32 0xC19C6BF8#32) (mulf z (addf (all32 0x42746DA7#32) (mulf z (all32 0xC26E5180#32))))))⟩]
    concatenates_S1024x200x32_S1024x200x32_S1024x200x64_d2

/-- The sinusoid of the positions, by sine and cosine. -/
def sinusExact (p : FVec Ideal S1024x200 .f32) : FVec Ideal S1024x200x64 .f32 :=
  concatenate S1024x200x64 2 [⟨S1024x200x32, Host.sin (angle p)⟩, ⟨S1024x200x32, Host.cos (angle p)⟩]
    concatenates_S1024x200x32_S1024x200x32_S1024x200x64_d2

/-- The plane of the first dimension. -/
def plane0 {α : Type} (x : S1024x200x2.Idx → α) : S1024x200.Idx → α :=
  shapeCast S1024x200 (extractStridedSlice S1024x200x1 ![0, 0, 0] x slices_S1024x200x2_S1024x200x1_0_0_0) shapeCasts_S1024x200x1_S1024x200

/-- The plane of the second dimension. -/
def plane1 {α : Type} (x : S1024x200x2.Idx → α) : S1024x200.Idx → α :=
  shapeCast S1024x200 (extractStridedSlice S1024x200x1 ![0, 0, 1] x slices_S1024x200x2_S1024x200x1_0_0_1) shapeCasts_S1024x200x1_S1024x200

/-- The four quarters of the features, projected, for a sinusoid `sn`. -/
def project (sn : FVec Ideal S1024x200 .f32 → FVec Ideal S1024x200x64 .f32) (tk ti : IVec S1024x200x2 32) (pk pi : FVec Ideal S1024x200x2 .f32)
    (ea eb : FVec Ideal S5x64 .f32) (W : FVec Ideal S512x256 .f32) : FVec Ideal S1024x200x512 .f32 :=
  Host.dotGeneral dot_S1024x200x256_S256x512_S1024x200x512_2_0_01_1_n_n none
    (concatenate S1024x200x256 2
      [⟨S1024x200x64, addf (takeTab (plane0 tk) ea) (sn (plane0 pk))⟩, ⟨S1024x200x64, addf (takeTab (plane1 tk) eb) (sn (plane1 pk))⟩,
       ⟨S1024x200x64, addf (takeTab (plane0 ti) ea) (sn (plane0 pi))⟩, ⟨S1024x200x64, addf (takeTab (plane1 ti) eb) (sn (plane1 pi))⟩]
      concatenates_S1024x200x64_S1024x200x64_S1024x200x64_S1024x200x64_S1024x200x256_d2)
    (transpose S256x512 [1, 0] W transposes_S512x256_S256x512_1_0)

/-- The reference's result is the projection of its tokens and positions. -/
theorem val_eq (T : IVec S1024x200x2 32) (V : FVec Ideal S1024x200x2 .f32) (ea eb : FVec Ideal S5x64 .f32) (W : FVec Ideal S512x256 .f32) :
    Read.val_main_v246 (F := Ideal) T V ea eb W
      = project sinus (Read.val_main_v19 (F := Ideal) T) (Read.val_main_v2 (F := Ideal) T) (Read.val_main_v15 (F := Ideal) T V) (Read.val_main_v147 (F := Ideal) T V) ea eb W := rfl

end Cert.Ref
-- ==== Proof.RefTake.lean ====
/-
  The reference's table rows and sinusoids, read at an entry.
-/
module

public import proofs.«01_k».proof.Proof.RefParts
public import proofs.«01_k».proof.Proof.Result
public import proofs.«01_k».proof.Proof.Project

@[expose] public section

noncomputable section

namespace Cert.Ref

open Cert.ReferenceIdeal Cert.ReferenceIdeal.Gen Cert.ReferenceIdeal.Facts Idealize.ShloMosaic

/-- A word below five, read as a signed number. -/
theorem toInt_small (w : BitVec 32) (h : w.toNat < 5) : w.toInt = (w.toNat : ℤ) := by
  rw [BitVec.toInt_eq_toNat_cond, if_pos (by omega)]

/-- A word below five is one of five. -/
theorem small_cases (w : BitVec 32) (h : w.toNat < 5) : w = 0#32 ∨ w = 1#32 ∨ w = 2#32 ∨ w = 3#32 ∨ w = 4#32 := by
  have hw : w = BitVec.ofNat 32 w.toNat := by simp
  rw [hw]
  generalize w.toNat = n at h
  interval_cases n <;> simp

/-- The gather of rows of the table, where the index is a row number. -/
theorem gather_apply (E : FVec Ideal S5x64 .f32) (idx : IVec S1024x200x1 32) (b : Fin 1024) (s : Fin 200) (j : Fin 64)
    (h : (idx (ix3 b s 0)).toNat < 5) :
    Host.gather gather_S5x64_S1024x200x1_S1024x200x64_2_0_n_n_0_2_164 E idx (ix3 b s j) = E (ix2 ⟨(idx (ix3 b s 0)).toNat, h⟩ j) := by
  unfold Host.gather
  refine congrArg E (funext fun a => Fin.ext ?_)
  match a with
  | ⟨0, _⟩ =>
    show gather_S5x64_S1024x200x1_S1024x200x64_2_0_n_n_0_2_164.start (ix3 b s j) idx 0
      + gather_S5x64_S1024x200x1_S1024x200x64_2_0_n_n_0_2_164.batchCoord (ix3 b s j) 0
      + gather_S5x64_S1024x200x1_S1024x200x64_2_0_n_n_0_2_164.offCoord (ix3 b s j) 0 = (idx (ix3 b s 0)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S5x64_S1024x200x1_S1024x200x64_2_0_n_n_0_2_164.startIndexMap from List.mem_singleton.mpr rfl)]
    have hsi : gather_S5x64_S1024x200x1_S1024x200x64_2_0_n_n_0_2_164.siIdx (ix3 b s j)
        ⟨List.idxOf (0 : Fin 2) gather_S5x64_S1024x200x1_S1024x200x64_2_0_n_n_0_2_164.startIndexMap,
          List.idxOf_lt_length_iff.2 (List.mem_singleton.mpr rfl)⟩ = ix3 b s 0 := by
      funext b'; refine Fin.ext ?_
      match b' with
      | ⟨0, _⟩ => rfl
      | ⟨1, _⟩ => rfl
      | ⟨2, _⟩ => rfl
    rw [hsi, toInt_small _ h]
    show min ((idx (ix3 b s 0)).toNat : ℤ).toNat (5 - 1) = (idx (ix3 b s 0)).toNat
    omega
  | ⟨1, _⟩ =>
    show gather_S5x64_S1024x200x1_S1024x200x64_2_0_n_n_0_2_164.start (ix3 b s j) idx 1
      + gather_S5x64_S1024x200x1_S1024x200x64_2_0_n_n_0_2_164.batchCoord (ix3 b s j) 1
      + gather_S5x64_S1024x200x1_S1024x200x64_2_0_n_n_0_2_164.offCoord (ix3 b s j) 1 = j.val
    rw [GatherDims.batchCoord_eq_zero _ _ _ List.not_mem_nil]
    have hm : (1 : Fin 2) ∉ gather_S5x64_S1024x200x1_S1024x200x64_2_0_n_n_0_2_164.startIndexMap := fun h =>
      absurd (List.mem_singleton.1 h) (by decide)
    unfold GatherDims.start
    rw [dif_neg hm, Nat.zero_add]
    rfl

/-- The index of a row that the table has stays. -/
theorem wrap_apply (w : IVec S1024x200 32) (b : Fin 1024) (s : Fin 200) (k : Fin 1) (h : (w (ix2 b s)).toNat < 5) :
    wrap w (ix3 b s k) = w (ix2 b s) := by
  have e : wrap w (ix3 b s k) = Scalar.select (IntOp.cmpi .slt (w (ix2 b s)) 0#32) (IntOp.addi (w (ix2 b s)) 5#32) (w (ix2 b s)) := by
    unfold wrap
    pointwise
  rw [e]
  refine if_neg ?_
  rcases small_cases _ h with h | h | h | h | h <;> rw [h] <;> decide

/-- Bits that are all set stay set under their conjunction. -/
theorem foldl_and {ι : Type} (x : ι → BitVec 1) (hx : ∀ i, x i = 1#1) (l : List ι) : l.foldl (fun r n => IntOp.andi r (x n)) 1#1 = 1#1 := by
  induction l with
  | nil => rfl
  | cons a l ih =>
    rw [List.foldl_cons, hx a]
    exact ih

/-- Where every token is a row number, every row is in the table. -/
theorem inTable_apply (w : IVec S1024x200 32) (hw : ∀ i, (w i).toNat < 5) (i : S1024x200.Idx) : inTable w i = 1#1 := by
  refine foldl_and (fun n => _) (fun n => ?_) _
  generalize S1024x200x1.rowMajor.symm n = p
  obtain ⟨b, s, k, rfl⟩ : ∃ (b : Fin 1024) (s : Fin 200) (k : Fin 1), p = ix3 b s k := ⟨p 0, p 1, p 2, eq_ix3 p⟩
  have e : andi (cmpi .sge (wrap w) (broadcastInDim S1024x200x1 ![] bcast_S_S1024x200x1 (constantI S_ 32 0#32)))
      (cmpi .sle (wrap w) (broadcastInDim S1024x200x1 ![0, 1, 2] bcast_S1x1x1_S1024x200x1_0_1_2
        (broadcastInDim S1x1x1 ![2] bcast_S1_S1x1x1_2 (constantI S1 32 4#32)))) (ix3 b s k)
      = IntOp.andi (IntOp.cmpi .sge (w (ix2 b s)) 0#32) (IntOp.cmpi .sle (w (ix2 b s)) 4#32) := by
    pointwise
    rw [wrap_apply w b s k (hw _)]
  rw [e]
  rcases small_cases _ (hw (ix2 b s)) with h | h | h | h | h <;> rw [h] <;> decide

/-- The rows of a table at the row numbers. -/
theorem takeTab_apply (w : IVec S1024x200 32) (hw : ∀ i, (w i).toNat < 5) (E : FVec Ideal S5x64 .f32) (b : Fin 1024) (s : Fin 200) (j : Fin 64) :
    takeTab w E (ix3 b s j) = Spec.entry (fun k j => E (ix2 k j)) (w (ix2 b s)) j := by
  have e : takeTab w E (ix3 b s j) = Scalar.select (inTable w (ix2 b s))
      (Host.gather gather_S5x64_S1024x200x1_S1024x200x64_2_0_n_n_0_2_164 E (wrap w) (ix3 b s j)) (Ideal.ofBits .f32 0x7FC00000#32) := by
    unfold takeTab
    pointwise
  have hk : wrap w (ix3 b s 0) = w (ix2 b s) := wrap_apply w b s 0 (hw _)
  rw [e, inTable_apply w hw]
  refine (if_pos rfl).trans ?_
  rw [gather_apply E (wrap w) b s j (by rw [hk]; exact hw _)]
  unfold Spec.entry
  rw [dif_pos (hw _)]
  simp only [hk]

/-- A division by eight times the arctangent of one is a division by a turn. -/
theorem div_turn (x : EReal) : Ideal.div x (Spec.num 0x41000000#32 * Ideal.atan (Spec.num 0x3F800000#32)) = x * Spec.perTurn := by
  have e : Spec.num 0x41000000#32 * Ideal.atan (Spec.num 0x3F800000#32) = ((2 * Real.pi : ℝ) : EReal) := by
    rw [Spec.num_eight, Spec.num_one]
    show ((8 : ℝ) : EReal) * ((Real.arctan 1 : ℝ) : EReal) = _
    rw [Real.arctan_one, ← EReal.coe_mul]
    congr 1
    ring
  rw [e]
  unfold Ideal.div Spec.perTurn
  rw [if_neg (by exact_mod_cast (mul_pos two_pos Real.pi_pos).ne'), ← EReal.coe_inv]

/-- The angle of a position at a frequency. -/
theorem angle_apply (p : FVec Ideal S1024x200 .f32) (b : Fin 1024) (s : Fin 200) (i : Fin 32) :
    angle p (ix3 b s i) = p (ix2 b s) * Spec.freq i.val := by
  unfold angle
  pointwise
  rfl

/-- The fraction of a turn of a position at a frequency. -/
theorem turn_apply (p : FVec Ideal S1024x200 .f32) (b : Fin 1024) (s : Fin 200) (i : Fin 32) :
    turn p (ix3 b s i) = Spec.frac (p (ix2 b s) * Spec.freq i.val * Spec.perTurn) := by
  have e : turn p (ix3 b s i) = Spec.frac (Ideal.div (angle p (ix3 b s i)) (Spec.num 0x41000000#32 * Ideal.atan (Spec.num 0x3F800000#32))) := by
    unfold turn
    pointwise
    rfl
  rw [e, div_turn, angle_apply]

/-- The sinusoid of a position by polynomials. -/
theorem sinus_apply (p : FVec Ideal S1024x200 .f32) (b : Fin 1024) (s : Fin 200) (j : Fin 64) :
    sinus p (ix3 b s j) = Spec.wave (p (ix2 b s)) j.val := by
  unfold sinus Spec.wave all32
  pointwise
  split
  · next h => rw [turn_apply]; rfl
  · next h => rw [turn_apply]; rfl

/-- The sinusoid of a position by sine and cosine. -/
def waveExact (x : EReal) (j : ℕ) : EReal := if j < 32 then Ideal.sin (x * Spec.freq j) else Ideal.cos (x * Spec.freq (j - 32))

theorem sinusExact_apply (p : FVec Ideal S1024x200 .f32) (b : Fin 1024) (s : Fin 200) (j : Fin 64) :
    sinusExact p (ix3 b s j) = waveExact (p (ix2 b s)) j.val := by
  unfold sinusExact waveExact
  pointwise
  split
  · next h => rw [angle_apply]
  · next h => rw [angle_apply]

theorem plane0_apply {α : Type} (x : S1024x200x2.Idx → α) (b : Fin 1024) (s : Fin 200) : plane0 x (ix2 b s) = x (ix3 b s 0) := by
  unfold plane0
  pointwise

theorem plane1_apply {α : Type} (x : S1024x200x2.Idx → α) (b : Fin 1024) (s : Fin 200) : plane1 x (ix2 b s) = x (ix3 b s 1) := by
  unfold plane1
  pointwise

end Cert.Ref
-- ==== Proof.RefPos.lean ====
/-
  The reference's tokens and positions, read at a sequence, a time and a dimension.
-/
module

public import proofs.«01_k».proof.Proof.RefScan
public import proofs.«01_k».proof.Proof.RefTake

@[expose] public section

noncomputable section

namespace Cert.Ref

open Cert.ReferenceIdeal Cert.ReferenceIdeal.Gen Cert.ReferenceIdeal.Facts Cert.ReferenceIdeal.Read Idealize.ShloMosaic Finset

variable (T : IVec S1024x200x2 32) (V : FVec Ideal S1024x200x2 .f32)

/-- The clipped tokens. -/
theorem tok_apply (i : S1024x200x2.Idx) : val_main_v2 (F := Ideal) T i = Spec.clipTok (T i) := by
  unfold val_main_v2 val_main_v1 val_main_v0 val_main_call0_v1 val_main_call0_v0 val_main_c_0 val_main_c
  pointwise
  rfl

/-- The values at the ordinary tokens. -/
theorem val_apply (i : S1024x200x2.Idx) : val_main_v3 (F := Ideal) T V i = Spec.clipVal (T i) (V i) := by
  unfold val_main_v3 val_main_v1 val_main_v0 val_main_call1_v0 val_main_cst val_main_c
  pointwise
  rfl

/-- Whether a token breaks is the same asked of the clipped token. -/
theorem breaks_clip (w : BitVec 32) :
    IntOp.andi (IntOp.andi (Spec.special w) (IntOp.cmpi .ne (Spec.clipTok w) 2#32)) (IntOp.cmpi .ne (Spec.clipTok w) 3#32) = Spec.breaks w := by
  unfold Spec.breaks Spec.clipTok Scalar.select
  generalize Spec.special w = b
  have hb : b = 1#1 ∨ b = 0#1 := by revert b; decide
  rcases hb with rfl | rfl
  · rw [show (if (1#1 : BitVec 1) = 1 then w else 4#32) = w from if_pos rfl]
  · have z : ∀ x y : BitVec 1, IntOp.andi (IntOp.andi 0#1 x) y = 0#1 := by decide
    rw [z, z]

/-- The bits of the breaking tokens. -/
theorem brk_apply (i : S1024x200x2.Idx) : val_main_v9 (F := Ideal) T i = Spec.breaks (T i) := by
  have e : val_main_v9 (F := Ideal) T i = IntOp.andi (IntOp.andi (Spec.special (T i)) (IntOp.cmpi .ne (val_main_v2 (F := Ideal) T i) 2#32))
      (IntOp.cmpi .ne (val_main_v2 (F := Ideal) T i) 3#32) := by
    unfold val_main_v9 val_main_v8 val_main_v7 val_main_v6 val_main_v5 val_main_v4 val_main_v1 val_main_v0 val_main_c_1 val_main_c_2 val_main_c
    pointwise
    rfl
  rw [e, tok_apply, breaks_clip]

theorem tokOf_of_lt (b : Fin 1024) (d : Fin 2) (s : ℕ) (h : s < 200) : Spec.tokOf T b d s = T (ix3 b ⟨s, h⟩ d) := dif_pos h
theorem valOf_of_lt (b : Fin 1024) (d : Fin 2) (s : ℕ) (h : s < 200) : Spec.valOf V b d s = V (ix3 b ⟨s, h⟩ d) := dif_pos h

/-- The mask from the first break on. -/
theorem unk_apply (b : Fin 1024) (s : Fin 200) (d : Fin 2) :
    val_main_v13 (F := Ideal) T (ix3 b s d) = 1#1 ↔ Spec.Unk (Spec.tokOf T b d) s.val := by
  have e : val_main_v13 (F := Ideal) T (ix3 b s d) = IntOp.cmpi .sgt (val_main_v11 (F := Ideal) T (ix3 b s d)) 0#32 := rfl
  have h : val_main_v11 (F := Ideal) T (ix3 b s d) = ∑ j ∈ range (s.val + 1), (Spec.breaks (Spec.tokOf T b d j)).setWidth 32 :=
    cum_apply (val_main_v10 (F := Ideal) T) (val_main_call2_call0_v0 (F := Ideal)) (fun _ => rfl) reduceWindows_S1024x200x2_S1024x200x2_w1s1p0_0_w200s1p199_0_w1s1p0_0 h_S_
      (fun j => (Spec.breaks (Spec.tokOf T b d j)).setWidth 32) b d (fun j hj => by
        rw [tokOf_of_lt T b d j hj, ← brk_apply]; rfl) s
  rw [e, h, count_pos _ _ s.isLt]
  rfl

/-- The known positions. -/
theorem posKnown_apply (b : Fin 1024) (s : Fin 200) (d : Fin 2) :
    val_main_v15 (F := Ideal) T V (ix3 b s d) = Spec.posKnown (Spec.tokOf T b d) (Spec.valOf V b d) s.val := by
  have e : val_main_v15 (F := Ideal) T V (ix3 b s d)
      = Scalar.select (val_main_v13 (F := Ideal) T (ix3 b s d)) (Spec.num 0x00000000#32) (val_main_v14 (F := Ideal) T V (ix3 b s d)) := by
    unfold val_main_v15 val_main_call4_v0 val_main_cst_4
    pointwise
  have h : val_main_v14 (F := Ideal) T V (ix3 b s d) = ∑ j ∈ range (s.val + 1), Spec.clipVal (Spec.tokOf T b d j) (Spec.valOf V b d j) :=
    cum_apply (val_main_v3 (F := Ideal) T V) (val_main_call3_call0_v0 (F := Ideal)) (fun _ => Spec.num_zero) reduceWindows_S1024x200x2_S1024x200x2_w1s1p0_0_w200s1p199_0_w1s1p0_0 h_S_
      (fun j => Spec.clipVal (Spec.tokOf T b d j) (Spec.valOf V b d j)) b d (fun j hj => by
        rw [tokOf_of_lt T b d j hj, valOf_of_lt V b d j hj, ← val_apply]) s
  rw [e, h, Spec.num_zero]
  unfold Spec.posKnown Scalar.select
  simp only [← unk_apply]
  rfl

/-- The known tokens. -/
theorem tokKnown_apply (b : Fin 1024) (s : Fin 200) (d : Fin 2) :
    val_main_v19 (F := Ideal) T (ix3 b s d) = Spec.tokKnown (Spec.tokOf T b d) s.val := by
  have e : val_main_v19 (F := Ideal) T (ix3 b s d) = Scalar.select (IntOp.andi (val_main_v13 (F := Ideal) T (ix3 b s d))
      (IntOp.cmpi .eq (val_main_v2 (F := Ideal) T (ix3 b s d)) 4#32)) 1#32 (val_main_v2 (F := Ideal) T (ix3 b s d)) := by
    unfold val_main_v19 val_main_v18 val_main_v17 val_main_v16 val_main_c_5 val_main_call5_v1 val_main_call5_v0 val_main_c_6
    pointwise
    rfl
  rw [e, tok_apply]
  unfold Spec.tokKnown
  rw [tokOf_of_lt T b d s.val s.isLt, ← unk_apply]
  exact Spec.select_known _ _ _ Iff.rfl

/-- The logarithm of a recurrence's coefficient. -/
theorem logCoef_apply (i : S1024x200x2.Idx) : val_main_v128 (F := Ideal) T i = ((Spec.logCoef (T i) : ℝ) : EReal) := by
  have e : val_main_v128 (F := Ideal) T i = Ideal.log (max (max ((((~~~(val_main_v9 (F := Ideal) T i)).toNat : ℝ)) : EReal)
      (-((((~~~(val_main_v9 (F := Ideal) T i)).toNat : ℝ)) : EReal))) Spec.eps) := by
    unfold val_main_v128 val_main_v127 val_main_v126 val_main_v125 val_main_cst_35 val_main_v117 val_main_v116
    pointwise
    rfl
  have hpos := Spec.eps_pos
  have hle := Spec.eps_le_one
  rw [e, brk_apply, Spec.eps_coe]
  unfold Spec.logCoef
  generalize Spec.breaks (T i) = w
  have hw : w = 1#1 ∨ w = 0#1 := by revert w; decide
  rcases hw with rfl | rfl
  · rw [if_pos rfl, show (~~~(1#1 : BitVec 1)).toNat = 0 from rfl, Nat.cast_zero, EReal.coe_zero, neg_zero, max_self,
      max_eq_right (by exact_mod_cast hpos.le), Ideal.log_coe, if_neg (by linarith)]
  · rw [if_neg (by decide), show (~~~(0#1 : BitVec 1)).toNat = 1 from rfl, Nat.cast_one, ← EReal.coe_neg,
      max_eq_left (EReal.coe_le_coe_iff.2 (by norm_num : (-1 : ℝ) ≤ 1)), max_eq_left (EReal.coe_le_coe_iff.2 hle), Ideal.log_coe, if_neg (by norm_num), Real.log_one]

/-- The running sums of the logarithms. -/
theorem cumLog_apply (b : Fin 1024) (s : Fin 200) (d : Fin 2) :
    val_main_v129 (F := Ideal) T (ix3 b s d) = ((∑ j ∈ range (s.val + 1), Spec.logCoef (Spec.tokOf T b d j) : ℝ) : EReal) := by
  have h : val_main_v129 (F := Ideal) T (ix3 b s d) = ∑ j ∈ range (s.val + 1), ((Spec.logCoef (Spec.tokOf T b d j) : ℝ) : EReal) :=
    cum_apply (val_main_v128 (F := Ideal) T) (val_main_call11_call0_v0 (F := Ideal)) (fun _ => Spec.num_zero) reduceWindows_S1024x200x2_S1024x200x2_w1s1p0_0_w200s1p199_0_w1s1p0_0 h_S_
      (fun j => ((Spec.logCoef (Spec.tokOf T b d j) : ℝ) : EReal)) b d (fun j hj => by
        rw [tokOf_of_lt T b d j hj, ← logCoef_apply]) s
  rw [h]
  induction s.val + 1 with
  | zero => simp
  | succ n ih => rw [sum_range_succ, sum_range_succ, EReal.coe_add, ih]

/-- A magnitude times an exponential, by logarithms. -/
theorem exp_log_add (x : EReal) (r : ℝ) : Ideal.exp (Ideal.log (Spec.mag x) + (r : EReal)) = ((Real.exp r : ℝ) : EReal) * Spec.mag x := by
  have hm : Spec.eps ≤ Spec.mag x := le_max_right _ _
  have hpos := Spec.eps_pos
  rw [Spec.eps_coe] at hm
  generalize Spec.mag x = m at hm
  induction m using EReal.rec with
  | bot => exact absurd hm (by simp)
  | top =>
    rw [Ideal.log_top, EReal.top_add_coe, Ideal.exp_top, EReal.coe_mul_top_of_pos (Real.exp_pos r)]
  | coe m =>
    have h : 0 < m := lt_of_lt_of_le hpos (by exact_mod_cast hm)
    rw [Ideal.log_coe, if_neg (not_le.2 h), ← EReal.coe_add, Ideal.exp_coe, Real.exp_add, Real.exp_log h, mul_comm, EReal.coe_mul]

/-- The sign by its two cases. -/
theorem sgn_eq (x : EReal) : Spec.sgn x = if x < 0 then Spec.num 0xBF800000#32 else 1 := by
  unfold Spec.sgn Scalar.select
  show (if BitVec.ofBool (decide (x < 0)) = 1 then _ else _) = _
  rw [Spec.num_one]
  by_cases h : x < 0
  · rw [if_pos h, decide_eq_true h]; exact if_pos rfl
  · rw [if_neg h, decide_eq_false h]; exact if_neg (by decide)

/-- One term of the sum that solves the recurrence. -/
theorem term_apply (b : Fin 1024) (s j : Fin 200) (d : Fin 2) :
    val_main_v141 (F := Ideal) T V (ix4 b s j d)
      = ((Real.exp (∑ i ∈ range (s.val + 1), Spec.logCoef (Spec.tokOf T b d i) - ∑ i ∈ range (j.val + 1), Spec.logCoef (Spec.tokOf T b d i)) : ℝ) : EReal)
        * (Spec.sgn (Spec.clipVal (Spec.tokOf T b d j.val) (Spec.valOf V b d j.val)) * Spec.mag (Spec.clipVal (Spec.tokOf T b d j.val) (Spec.valOf V b d j.val))) := by
  have e : val_main_v141 (F := Ideal) T V (ix4 b s j d) = Spec.sgn (val_main_v3 (F := Ideal) T V (ix3 b j d))
      * Ideal.exp (Ideal.log (Spec.mag (val_main_v3 (F := Ideal) T V (ix3 b j d)))
        + (val_main_v129 (F := Ideal) T (ix3 b s d) - val_main_v129 (F := Ideal) T (ix3 b j d))) := by
    unfold val_main_v141 val_main_v140 val_main_v139 val_main_v138 val_main_v137 val_main_v136 val_main_v135 val_main_v134 val_main_v133 val_main_v132
      val_main_v131 val_main_v130 val_main_v124 val_main_v123 val_main_v122 val_main_v121 val_main_v120 val_main_v119 val_main_v118
      val_main_cst_31 val_main_cst_32 val_main_call10_v0 val_main_call10_v1 val_main_cst_33 val_main_cst_34
    pointwise
    rw [sgn_eq]
    rfl
  rw [e, cumLog_apply, cumLog_apply, ← EReal.coe_sub, exp_log_add, val_apply, tokOf_of_lt T b d j.val j.isLt, valOf_of_lt V b d j.val j.isLt,
    mul_left_comm]

/-- The masked terms. -/
theorem masked_apply (b : Fin 1024) (s j : Fin 200) (d : Fin 2) :
    val_main_v145 (F := Ideal) T V (ix4 b s j d) = if j.val < s.val + 1 then val_main_v141 (F := Ideal) T V (ix4 b s j d) else 0 := by
  have e : val_main_v145 (F := Ideal) T V (ix4 b s j d) = Scalar.select (IntOp.cmpi .sle (BitVec.ofNat 32 j.val) (BitVec.ofNat 32 s.val))
      (val_main_v141 (F := Ideal) T V (ix4 b s j d)) (Spec.num 0x00000000#32) := by
    unfold val_main_v145 val_main_call12_v0 val_main_call12_v1 val_main_cst_36 val_main_v144 val_main_v143 val_main_v142
    pointwise
  have hi : ∀ k : Fin 200, (BitVec.ofNat 32 k.val).toInt = (k.val : ℤ) := fun k => by
    have := k.isLt
    rw [BitVec.toInt_eq_toNat_cond, BitVec.toNat_ofNat, Nat.mod_eq_of_lt (by omega), if_pos (by omega)]
  have hc : IntOp.cmpi .sle (BitVec.ofNat 32 j.val) (BitVec.ofNat 32 s.val) = BitVec.ofBool (decide (j.val < s.val + 1)) := by
    show BitVec.ofBool (BitVec.sle _ _) = _
    rw [BitVec.sle, hi, hi]
    congr 2
    exact propext ⟨fun h => by omega, fun h => by omega⟩
  rw [e, hc, Spec.num_zero]
  unfold Scalar.select
  by_cases h : j.val < s.val + 1
  · rw [if_pos h, decide_eq_true h]; exact if_pos rfl
  · rw [if_neg h, decide_eq_false h]; exact if_neg (by decide)

/-- The positions within the interval. -/
theorem posInt_apply (b : Fin 1024) (s : Fin 200) (d : Fin 2) :
    val_main_v147 (F := Ideal) T V (ix3 b s d) = Spec.posInt (Spec.tokOf T b d) (Spec.valOf V b d) s.val := by
  have e : val_main_v147 (F := Ideal) T V (ix3 b s d) = Spec.round4 (val_main_v146 (F := Ideal) T V (ix3 b s d)) := by
    unfold val_main_v147 val_main_call13_v3 val_main_call13_v2 val_main_call13_v1 val_main_call13_v0 val_main_call13_cst val_main_call13_cst_0
    pointwise
    rfl
  have hs := s.isLt
  have h : val_main_v146 (F := Ideal) T V (ix3 b s d) = ∑ j : Fin 200, val_main_v145 (F := Ideal) T V (ix4 b s j d) := by
    unfold val_main_v146 val_main_cst_37
    pointwise
  rw [e, h]
  refine congrArg Spec.round4 ?_
  simp only [masked_apply, term_apply]
  rw [← Finset.sum_range (fun j => if j < s.val + 1 then
    ((Real.exp (∑ i ∈ range (s.val + 1), Spec.logCoef (Spec.tokOf T b d i) - ∑ i ∈ range (j + 1), Spec.logCoef (Spec.tokOf T b d i)) : ℝ) : EReal)
      * (Spec.sgn (Spec.clipVal (Spec.tokOf T b d j) (Spec.valOf V b d j)) * Spec.mag (Spec.clipVal (Spec.tokOf T b d j) (Spec.valOf V b d j))) else 0),
    ← Finset.sum_filter]
  refine sum_congr (Finset.ext fun j => ?_) fun _ _ => rfl
  simp only [mem_filter, mem_range]
  omega

end Cert.Ref
-- ==== Proof.Reference.lean ====
/-
  The reference's result, entry by entry.
-/
module

public import proofs.«01_k».proof.Proof.RefPos

@[expose] public section

noncomputable section

namespace Cert.Ref

open Cert.ReferenceIdeal Cert.ReferenceIdeal.Gen Cert.ReferenceIdeal.Facts Cert.ReferenceIdeal.Read Idealize.ShloMosaic Finset

/-- Entry `64 q + j` of four arrays side by side is entry `j` of array `q`. -/
theorem quarters_apply (x : Fin 4 → FVec Ideal S1024x200x64 .f32) (b : Fin 1024) (s : Fin 200) (q : Fin 4) (j : Fin 64) :
    concatenate S1024x200x256 2 [⟨S1024x200x64, x 0⟩, ⟨S1024x200x64, x 1⟩, ⟨S1024x200x64, x 2⟩, ⟨S1024x200x64, x 3⟩]
      concatenates_S1024x200x64_S1024x200x64_S1024x200x64_S1024x200x64_S1024x200x256_d2 (ix3 b s (⟨64 * q.val + j.val, by omega⟩ : Fin 256)) = x q (ix3 b s j) := by
  have hj := j.isLt
  have leaf : ∀ (q' : Fin 4) (k : Fin 64), q' = q → k = j → x q' (ix3 b s k) = x q (ix3 b s j) := fun _ _ h h' => by rw [h, h']
  pointwise
  repeat' split
  all_goals
    refine leaf _ _ (Fin.ext ?_) (Fin.ext ?_)
    all_goals
      try dsimp only at *
      first | omega | (show _ = q.val; simp only [Fin.val_zero, Fin.val_one]; omega)

/-- One entry of the projection, quarter by quarter. -/
theorem project_apply (x : Fin 4 → FVec Ideal S1024x200x64 .f32) (W : FVec Ideal S512x256 .f32) (b : Fin 1024) (s : Fin 200) (n : Fin 512) :
    Host.dotGeneral dot_S1024x200x256_S256x512_S1024x200x512_2_0_01_1_n_n none
      (concatenate S1024x200x256 2 [⟨S1024x200x64, x 0⟩, ⟨S1024x200x64, x 1⟩, ⟨S1024x200x64, x 2⟩, ⟨S1024x200x64, x 3⟩]
        concatenates_S1024x200x64_S1024x200x64_S1024x200x64_S1024x200x64_S1024x200x256_d2)
      (transpose S256x512 [1, 0] W transposes_S512x256_S256x512_1_0) (ix3 b s n)
      = ∑ q : Fin 4, ∑ j : Fin 64, x q (ix3 b s j) * W (ix2 n ⟨64 * q.val + j.val, by omega⟩) := by
  have hq := quarters_apply x b s
  generalize (concatenate S1024x200x256 2 [⟨S1024x200x64, x 0⟩, ⟨S1024x200x64, x 1⟩, ⟨S1024x200x64, x 2⟩, ⟨S1024x200x64, x 3⟩]
        concatenates_S1024x200x64_S1024x200x64_S1024x200x64_S1024x200x64_S1024x200x256_d2) = y at hq ⊢
  have e : Host.dotGeneral (F := Ideal) dot_S1024x200x256_S256x512_S1024x200x512_2_0_01_1_n_n none y
      (transpose S256x512 [1, 0] W transposes_S512x256_S256x512_1_0) (ix3 b s n) = ∑ k : Fin 256, y (ix3 b s k) * W (ix2 n k) := by
    pointwise
  rw [e]
  obtain ⟨f, hf⟩ : ∃ f : ℕ → EReal, ∀ (k : ℕ) (h : k < 256), f k = y (ix3 b s ⟨k, h⟩) * W (ix2 n ⟨k, h⟩) :=
    ⟨fun k => if h : k < 256 then y (ix3 b s ⟨k, h⟩) * W (ix2 n ⟨k, h⟩) else 0, fun k h => dif_pos h⟩
  have h : ∑ k : Fin 256, y (ix3 b s k) * W (ix2 n k) = ∑ k : Fin 256, f k.val := Fintype.sum_congr _ _ fun k => (hf k.val k.isLt).symm
  refine h.trans ((Spec.sum_blocks (m := 4) (n := 64) f).trans ?_)
  refine Fintype.sum_congr _ _ fun q => Fintype.sum_congr _ _ fun j => ?_
  rw [hf _ (by omega), hq]

variable (T : IVec S1024x200x2 32) (V : FVec Ideal S1024x200x2 .f32) (ea eb : FVec Ideal S5x64 .f32) (W : FVec Ideal S512x256 .f32)

/-- The clipped tokens of a plane, and the known ones, are row numbers where no token is negative. -/
theorem planes_lt (hT : ∀ i, 0 ≤ (T i).toInt) :
    (∀ i, (plane0 (val_main_v19 (F := Ideal) T) i).toNat < 5) ∧ (∀ i, (plane1 (val_main_v19 (F := Ideal) T) i).toNat < 5)
    ∧ (∀ i, (plane0 (val_main_v2 (F := Ideal) T) i).toNat < 5) ∧ (∀ i, (plane1 (val_main_v2 (F := Ideal) T) i).toNat < 5) := by
  have hk : ∀ b s d, (val_main_v19 (F := Ideal) T (ix3 b s d)).toNat < 5 := fun b s d => by
    rw [tokKnown_apply]
    match d with
    | ⟨0, _⟩ => exact Spec.tokenOf_lt T hT b s.val 0
    | ⟨1, _⟩ => exact Spec.tokenOf_lt T hT b s.val 1
  have hc : ∀ i, (val_main_v2 (F := Ideal) T i).toNat < 5 := fun i => by rw [tok_apply]; exact Spec.clipTok_lt _ (hT i)
  have hi : ∀ i : S1024x200.Idx, ∃ (b : Fin 1024) (s : Fin 200), i = ix2 b s := fun i => ⟨i 0, i 1, eq_ix2 i⟩
  refine ⟨fun i => ?_, fun i => ?_, fun i => ?_, fun i => ?_⟩ <;> obtain ⟨b, s, rfl⟩ := hi i
  · rw [plane0_apply]; exact hk _ _ _
  · rw [plane1_apply]; exact hk _ _ _
  · rw [plane0_apply]; exact hc _
  · rw [plane1_apply]; exact hc _

/-- A quarter that embeds the tokens as they came: its clipped token's row and the time integral. -/
theorem later (wv : EReal → ℕ → EReal) (b : Fin 1024) (s q : ℕ) (hq : ¬ q < 2) (j : Fin 64) :
    Spec.entry (fun k j => Spec.tableOf ea eb q (ix2 k j)) (Spec.tokenOf T b s q) j + wv (Spec.posOf T V b s q) j.val
      = Spec.entry (fun k j => Spec.tableOf ea eb q (ix2 k j)) (Spec.clipTok (Spec.tokOf T b (Spec.dimOf q) s)) j
        + wv (Spec.posInt (Spec.tokOf T b (Spec.dimOf q)) (Spec.valOf V b (Spec.dimOf q)) s) j.val := by
  unfold Spec.tokenOf Spec.posOf
  rw [if_neg hq, if_neg hq]

/-- One entry of the projection of the reference's tokens and positions, for a sinusoid read by `wv`. -/
theorem project_eq (sn : FVec Ideal S1024x200 .f32 → FVec Ideal S1024x200x64 .f32) (wv : EReal → ℕ → EReal)
    (hsn : ∀ p b s (j : Fin 64), sn p (ix3 b s j) = wv (p (ix2 b s)) j.val) (hT : ∀ i, 0 ≤ (T i).toInt) (b : Fin 1024) (s : Fin 200) (n : Fin 512) :
    project sn (val_main_v19 (F := Ideal) T) (val_main_v2 (F := Ideal) T) (val_main_v15 (F := Ideal) T V) (val_main_v147 (F := Ideal) T V) ea eb W (ix3 b s n)
      = Spec.result wv T V ea eb W b s.val n := by
  obtain ⟨h0, h1, h2, h3⟩ := planes_lt T hT
  refine (project_apply ![addf (takeTab (plane0 (val_main_v19 (F := Ideal) T)) ea) (sn (plane0 (val_main_v15 (F := Ideal) T V))),
    addf (takeTab (plane1 (val_main_v19 (F := Ideal) T)) eb) (sn (plane1 (val_main_v15 (F := Ideal) T V))),
    addf (takeTab (plane0 (val_main_v2 (F := Ideal) T)) ea) (sn (plane0 (val_main_v147 (F := Ideal) T V))),
    addf (takeTab (plane1 (val_main_v2 (F := Ideal) T)) eb) (sn (plane1 (val_main_v147 (F := Ideal) T V)))] W b s n).trans ?_
  have quarter : ∀ (w : IVec S1024x200 32) (hw : ∀ i, (w i).toNat < 5) (E : FVec Ideal S5x64 .f32) (p : FVec Ideal S1024x200 .f32) (j : Fin 64),
      addf (takeTab w E) (sn p) (ix3 b s j) = Spec.entry (fun k j => E (ix2 k j)) (w (ix2 b s)) j + wv (p (ix2 b s)) j.val := fun w hw E p j => by
    rw [← takeTab_apply w hw, ← hsn]; rfl
  unfold Spec.result Spec.out
  refine Fintype.sum_congr _ _ fun q => Fintype.sum_congr _ _ fun j => congrArg₂ (· * ·) ?_ rfl
  match q with
  | ⟨0, _⟩ =>
    refine (quarter _ h0 _ _ j).trans ?_
    rw [plane0_apply, plane0_apply, tokKnown_apply, posKnown_apply]; rfl
  | ⟨1, _⟩ =>
    refine (quarter _ h1 _ _ j).trans ?_
    rw [plane1_apply, plane1_apply, tokKnown_apply, posKnown_apply]; rfl
  | ⟨2, _⟩ =>
    refine (quarter _ h2 _ _ j).trans ?_
    rw [plane0_apply, plane0_apply, tok_apply, posInt_apply, ← tokOf_of_lt T b 0 s.val s.isLt]
    exact (later T V ea eb wv b s.val 2 (by decide) j).symm
  | ⟨3, _⟩ =>
    refine (quarter _ h3 _ _ j).trans ?_
    rw [plane1_apply, plane1_apply, tok_apply, posInt_apply, ← tokOf_of_lt T b 1 s.val s.isLt]
    exact (later T V ea eb wv b s.val 3 (by decide) j).symm

/-- The reference's result, for any arguments without a negative token. -/
theorem val_apply_eq (hT : ∀ i, 0 ≤ (T i).toInt) :
    val_main_v246 (F := Ideal) T V ea eb W = fun y : S1024x200x512.Idx => Spec.result Spec.wave T V ea eb W (y 0) (y 1).val (y 2) := by
  rw [val_eq]
  funext y
  exact (congrArg _ (eq_ix3 y)).trans (project_eq T V ea eb W sinus Spec.wave sinus_apply hT _ _ _)

end Cert.Ref
-- ==== Proof.Finite.lean ====
/-
  What the preconditions say, entry by entry.
-/
module

public import proofs.«01_k».proof.Proof.Consts

@[expose] public section

noncomputable section

namespace Cert.Spec

open Idealize.ShloMosaic

/-- A number whose magnitude is below infinity is a real number. -/
theorem real_of_olt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- A word found at least zero is no negative integer. -/
theorem nonneg_of_sge (w : BitVec 32) (h : IntOp.cmpi .sge w 0#32 = 1#1) : 0 ≤ w.toInt := by
  by_contra hn
  have : (0#32).sle w = false := by
    rw [BitVec.sle_eq_decide]; exact decide_eq_false (by simpa using hn)
  simp [IntOp.cmpi, this] at h

end Cert.Spec
-- ==== Proof.Approx.lean ====
/-
  The two polynomials against the sine and the cosine: over half a turn either way they are within 1/512.
-/
module

public import Mathlib.Analysis.SpecialFunctions.Trigonometric.Basic
public import Mathlib.Analysis.Complex.Exponential

@[expose] public section

noncomputable section

namespace Cert.Approx

open Finset

/-- The cosine's series to the twelfth power. -/
def cosSeries (y : ℝ) : ℝ := 1 - y ^ 2 / 2 + y ^ 4 / 24 - y ^ 6 / 720 + y ^ 8 / 40320 - y ^ 10 / 3628800 + y ^ 12 / 479001600

/-- The sine's series to the thirteenth power. -/
def sinSeries (y : ℝ) : ℝ :=
  y - y ^ 3 / 6 + y ^ 5 / 120 - y ^ 7 / 5040 + y ^ 9 / 362880 - y ^ 11 / 39916800 + y ^ 13 / 6227020800

/-- Fourteen terms of the exponential at an imaginary number. -/
theorem exp_series (y : ℝ) :
    ∑ m ∈ range 14, ((y : ℂ) * Complex.I) ^ m / (m.factorial : ℂ) = (cosSeries y : ℂ) + (sinSeries y : ℂ) * Complex.I := by
  have h2 : Complex.I ^ 2 = -1 := Complex.I_sq
  unfold cosSeries sinSeries
  simp only [sum_range_succ, range_zero, sum_empty, Nat.factorial, mul_pow]
  push_cast
  have h3 : Complex.I ^ 3 = -Complex.I := by rw [pow_succ, h2]; ring
  rw [h3, h2]
  ring

/-- How far the two series are from the cosine and the sine. -/
theorem series_near (y : ℝ) (hy : |y| ≤ 7) :
    |Real.cos y - cosSeries y| ≤ |y| ^ 14 / 43589145600 ∧ |Real.sin y - sinSeries y| ≤ |y| ^ 14 / 43589145600 := by
  have hn : ‖(y : ℂ) * Complex.I‖ = |y| := by simp
  have hb := Complex.exp_bound' (x := (y : ℂ) * Complex.I) (n := 14) (by rw [hn, div_le_iff₀ (by norm_num)]; norm_num; linarith)
  have hs : |y| ^ 14 / (Nat.factorial 14 : ℝ) * 2 = |y| ^ 14 / 43589145600 := by
    have h14 : (Nat.factorial 14 : ℝ) = 87178291200 := by norm_num [Nat.factorial]
    rw [h14]
    ring
  rw [hn, exp_series, Complex.exp_mul_I, hs] at hb
  have hd : Complex.cos y + Complex.sin y * Complex.I - ((cosSeries y : ℂ) + (sinSeries y : ℂ) * Complex.I)
      = ((Real.cos y - cosSeries y : ℝ) : ℂ) + ((Real.sin y - sinSeries y : ℝ) : ℂ) * Complex.I := by
    push_cast
    ring
  rw [hd] at hb
  generalize Real.cos y - cosSeries y = p at hb ⊢
  generalize Real.sin y - sinSeries y = q at hb ⊢
  have hre := (Complex.abs_re_le_norm _).trans hb
  have him := (Complex.abs_im_le_norm _).trans hb
  simp at hre him
  exact ⟨hre, him⟩

/-- Two bounds of pi, by the sign of the cosine beside a quarter of a turn. -/
theorem pi_bounds : 3.14159 ≤ Real.pi ∧ Real.pi ≤ 3.1416 := by
  have h2 := Real.two_le_pi
  constructor
  · by_contra h
    have hc := Real.cos_nonpos_of_pi_div_two_le_of_le (x := 3.14159 / 2) (by linarith) (by linarith)
    have hs := (series_near (3.14159 / 2) (by norm_num [abs_of_pos])).1
    rw [abs_le, abs_of_pos (by norm_num)] at hs
    unfold cosSeries at hs
    norm_num at hs hc
    linarith
  · by_contra h
    have hc := Real.cos_nonneg_of_neg_pi_div_two_le_of_le (x := 3.1416 / 2) (by linarith) (by linarith)
    have hs := (series_near (3.1416 / 2) (by norm_num [abs_of_pos])).1
    rw [abs_le, abs_of_pos (by norm_num)] at hs
    unfold cosSeries at hs
    norm_num at hs hc
    linarith

/-- A sine's magnitude is at most twice its argument's, for arguments up to 1. -/
theorem abs_sin_le (x : ℝ) (hx : |x| ≤ 1) : |Real.sin x| ≤ 2 * |x| := by
  obtain ⟨_, h⟩ := series_near x (hx.trans (by norm_num))
  have hp : |x| ^ 14 ≤ |x| := pow_le_of_le_one (abs_nonneg x) hx (by norm_num)
  have hq : |sinSeries x| ≤ 3 / 2 * |x| := by
    have e : sinSeries x = x * (1 - x ^ 2 / 6 + x ^ 4 / 120 - x ^ 6 / 5040 + x ^ 8 / 362880 - x ^ 10 / 39916800 + x ^ 12 / 6227020800) := by
      unfold sinSeries; ring
    have b : ∀ k : ℕ, 0 ≤ x ^ (2 * k) ∧ x ^ (2 * k) ≤ 1 := fun k => by
      rw [pow_mul]
      exact ⟨pow_nonneg (sq_nonneg x) k, pow_le_one₀ (sq_nonneg x) ((sq_le_one_iff_abs_le_one x).2 hx)⟩
    rw [e, abs_mul, mul_comm]
    refine mul_le_mul_of_nonneg_right (abs_le.2 ?_) (abs_nonneg x)
    have b1 : 0 ≤ x ^ 2 ∧ x ^ 2 ≤ 1 := b 1
    have b2 : 0 ≤ x ^ 4 ∧ x ^ 4 ≤ 1 := b 2
    have b3 : 0 ≤ x ^ 6 ∧ x ^ 6 ≤ 1 := b 3
    have b4 : 0 ≤ x ^ 8 ∧ x ^ 8 ≤ 1 := b 4
    have b5 : 0 ≤ x ^ 10 ∧ x ^ 10 ≤ 1 := b 5
    have b6 : 0 ≤ x ^ 12 ∧ x ^ 12 ≤ 1 := b 6
    constructor <;> linarith
  have := abs_sub_abs_le_abs_sub (Real.sin x) (sinSeries x)
  have h0 := abs_nonneg x
  linarith

/-- Near angles have near cosines and near sines. -/
theorem angle_near (x y : ℝ) (h : |x - y| ≤ 1) : |Real.cos x - Real.cos y| ≤ 2 * |x - y| ∧ |Real.sin x - Real.sin y| ≤ 2 * |x - y| := by
  have hh : |(x - y) / 2| = |x - y| / 2 := by rw [abs_div, abs_of_pos (by norm_num : (0 : ℝ) < 2)]
  have hs := abs_sin_le ((x - y) / 2) (by rw [hh]; linarith)
  rw [hh] at hs
  constructor
  · rw [Real.cos_sub_cos, abs_mul, abs_mul, abs_neg, abs_of_pos (by norm_num : (0 : ℝ) < 2)]
    nlinarith [Real.abs_sin_le_one ((x + y) / 2), abs_nonneg (Real.sin ((x + y) / 2)), abs_nonneg (Real.sin ((x - y) / 2))]
  · rw [Real.sin_sub_sin, abs_mul, abs_mul, abs_of_pos (by norm_num : (0 : ℝ) < 2)]
    nlinarith [Real.abs_cos_le_one ((x + y) / 2), abs_nonneg (Real.cos ((x + y) / 2)), abs_nonneg (Real.sin ((x - y) / 2))]

/-- The first six Chebyshev polynomials stay between -1 and 1. -/
theorem chebyshev (s : ℝ) (hs : |s| ≤ 1) :
    |2 * s ^ 2 - 1| ≤ 1 ∧ |4 * s ^ 3 - 3 * s| ≤ 1 ∧ |8 * s ^ 4 - 8 * s ^ 2 + 1| ≤ 1 ∧ |16 * s ^ 5 - 20 * s ^ 3 + 5 * s| ≤ 1
      ∧ |32 * s ^ 6 - 48 * s ^ 4 + 18 * s ^ 2 - 1| ≤ 1 := by
  have h0 : 0 ≤ 1 - s ^ 2 := by nlinarith [abs_le.1 hs]
  have sq : ∀ x q : ℝ, x ^ 2 = 1 - (1 - s ^ 2) * q ^ 2 → |x| ≤ 1 := fun x q h =>
    (sq_le_one_iff_abs_le_one x).1 (by rw [h]; linarith [mul_nonneg h0 (sq_nonneg q)])
  exact ⟨sq _ (2 * s) (by ring), sq _ (4 * s ^ 2 - 1) (by ring), sq _ (8 * s ^ 3 - 4 * s) (by ring),
    sq _ (16 * s ^ 4 - 12 * s ^ 2 + 1) (by ring), sq _ (32 * s ^ 5 - 32 * s ^ 3 + 6 * s) (by ring)⟩

/-- The even polynomial. -/
def evenPoly (u : ℝ) : ℝ := 1047073 / 1048576 + u * u * (-1281407 / 65536 + u * u * (16018855 / 262144 + u * u * (-122019 / 2048)))

/-- The odd polynomial. -/
def oddPoly (u : ℝ) : ℝ := u * (13174597 / 2097152 + u * u * (-5400923 / 131072 + u * u * (5165979 / 65536 + u * u * (-15239671 / 262144))))

/-- The even polynomial is near the cosine's series. -/
theorem even_near (u : ℝ) (hu : |u| ≤ 1 / 2) : |evenPoly u - cosSeries (2 * (355 / 113) * u)| ≤ 16 / 10000 := by
  obtain ⟨l, r⟩ := abs_le.1 hu
  obtain ⟨s, hs⟩ : ∃ s, s = 8 * u ^ 2 - 1 := ⟨_, rfl⟩
  have h1 : |s| ≤ 1 := by rw [abs_le]; constructor <;> nlinarith
  obtain ⟨h2, h3, h4, h5, h6⟩ := chebyshev s h1
  have ht : u ^ 2 = (s + 1) / 8 := by linarith
  have e : evenPoly u - cosSeries (2 * (355 / 113) * u)
      = 1047073 / 1048576 + u ^ 2 * (-1281407 / 65536 + u ^ 2 * (16018855 / 262144 + u ^ 2 * (-122019 / 2048)))
        - (1 - (710 / 113) ^ 2 * u ^ 2 / 2 + (710 / 113) ^ 4 * (u ^ 2) ^ 2 / 24 - (710 / 113) ^ 6 * (u ^ 2) ^ 3 / 720
          + (710 / 113) ^ 8 * (u ^ 2) ^ 4 / 40320 - (710 / 113) ^ 10 * (u ^ 2) ^ 5 / 3628800 + (710 / 113) ^ 12 * (u ^ 2) ^ 6 / 479001600) := by
    unfold evenPoly cosSeries; ring
  rw [e, ht]
  rw [abs_le] at *
  constructor <;> linarith

/-- The odd polynomial is near the sine's series. -/
theorem odd_near (u : ℝ) (hu : |u| ≤ 1 / 2) : |oddPoly u - sinSeries (2 * (355 / 113) * u)| ≤ 16 / 10000 := by
  obtain ⟨l, r⟩ := abs_le.1 hu
  obtain ⟨s, hs⟩ : ∃ s, s = 8 * u ^ 2 - 1 := ⟨_, rfl⟩
  have h1 : |s| ≤ 1 := by rw [abs_le]; constructor <;> nlinarith
  obtain ⟨h2, h3, h4, h5, h6⟩ := chebyshev s h1
  have ht : u ^ 2 = (s + 1) / 8 := by linarith
  have e : oddPoly u - sinSeries (2 * (355 / 113) * u)
      = u * (13174597 / 2097152 + u ^ 2 * (-5400923 / 131072 + u ^ 2 * (5165979 / 65536 + u ^ 2 * (-15239671 / 262144)))
        - (710 / 113 - (710 / 113) ^ 3 * u ^ 2 / 6 + (710 / 113) ^ 5 * (u ^ 2) ^ 2 / 120 - (710 / 113) ^ 7 * (u ^ 2) ^ 3 / 5040
          + (710 / 113) ^ 9 * (u ^ 2) ^ 4 / 362880 - (710 / 113) ^ 11 * (u ^ 2) ^ 5 / 39916800 + (710 / 113) ^ 13 * (u ^ 2) ^ 6 / 6227020800)) := by
    unfold oddPoly sinSeries; ring
  rw [e, ht, abs_mul]
  refine (mul_le_mul (d := 32 / 10000) hu ?_ (abs_nonneg _) (by norm_num)).trans (by norm_num)
  rw [abs_le] at *
  constructor <;> linarith

/-- A turn by 355/113 for pi is off by little. -/
theorem turn_near (u : ℝ) (hu : |u| ≤ 1 / 2) : |2 * (355 / 113) * u - 2 * Real.pi * u| ≤ 1 / 100000 := by
  have e : 2 * (355 / 113) * u - 2 * Real.pi * u = u * (2 * (355 / 113 - Real.pi)) := by ring
  rw [e, abs_mul]
  refine (mul_le_mul (d := 2 / 100000) hu ?_ (abs_nonneg _) (by norm_num)).trans (by norm_num)
  rw [abs_le]
  constructor <;> linarith [pi_bounds.1, pi_bounds.2]

/-- Over half a turn either way the polynomials are within 1/512 of the cosine and the sine. -/
theorem near (u : ℝ) (hu : |u| ≤ 1 / 2) :
    |evenPoly u - Real.cos (2 * Real.pi * u)| ≤ 1 / 512 ∧ |oddPoly u - Real.sin (2 * Real.pi * u)| ≤ 1 / 512 := by
  have hy : |2 * (355 / 113) * u| ≤ 355 / 113 := by
    rw [abs_mul, abs_of_pos (by norm_num : (0 : ℝ) < 2 * (355 / 113))]; linarith
  obtain ⟨c, d⟩ := series_near _ (hy.trans (by norm_num))
  have e : |2 * (355 / 113) * u| ^ 14 / 43589145600 ≤ 3 / 14000 := by
    have := pow_le_pow_left₀ (abs_nonneg _) hy 14
    norm_num at this ⊢
    linarith
  have t := turn_near u hu
  obtain ⟨c', d'⟩ := angle_near _ _ (t.trans (by norm_num))
  have p := even_near u hu
  have q := odd_near u hu
  replace c := c.trans e
  replace d := d.trans e
  replace c' := c'.trans (mul_le_mul_of_nonneg_left t (by norm_num))
  replace d' := d'.trans (mul_le_mul_of_nonneg_left t (by norm_num))
  clear e t hy
  rw [abs_le] at c d c' d' p q ⊢
  rw [abs_le]
  refine ⟨⟨?_, ?_⟩, ⟨?_, ?_⟩⟩ <;> linarith

end Cert.Approx
-- ==== Proof.Near.lean ====
/-
  How far the result with the polynomials is from the result with the sine and the cosine, for finite arguments.
-/
module

public import proofs.«01_k».proof.Proof.Approx
public import proofs.«01_k».proof.Proof.RefTake
public import proofs.«01_k».proof.Proof.Result

@[expose] public section

noncomputable section

namespace Cert.Near

open Idealize.ShloMosaic Finset

/-- A number that is neither infinity. -/
def IsReal (x : EReal) : Prop := ∃ r : ℝ, x = r

theorem real_coe (r : ℝ) : IsReal (r : EReal) := ⟨r, rfl⟩

theorem real_zero : IsReal 0 := ⟨0, rfl⟩

theorem real_add {x y : EReal} : IsReal x → IsReal y → IsReal (x + y) := fun ⟨a, ha⟩ ⟨b, hb⟩ => ⟨a + b, by rw [ha, hb, EReal.coe_add]⟩

theorem real_mul {x y : EReal} : IsReal x → IsReal y → IsReal (x * y) := fun ⟨a, ha⟩ ⟨b, hb⟩ => ⟨a * b, by rw [ha, hb, EReal.coe_mul]⟩

theorem real_neg {x : EReal} : IsReal x → IsReal (-x) := fun ⟨a, ha⟩ => ⟨-a, by rw [ha, EReal.coe_neg]⟩

theorem real_max {x y : EReal} (hx : IsReal x) (hy : IsReal y) : IsReal (max x y) := by
  rcases max_choice x y with h | h <;> rw [h] <;> assumption

theorem real_select {x y : EReal} (c : BitVec 1) (hx : IsReal x) (hy : IsReal y) : IsReal (Scalar.select c x y) := by
  unfold Scalar.select
  split <;> assumption

theorem real_sum (f : ℕ → EReal) (h : ∀ j, IsReal (f j)) (n : ℕ) : IsReal (∑ j ∈ range n, f j) := by
  induction n with
  | zero => exact real_zero
  | succ n ih => rw [sum_range_succ]; exact real_add ih (h n)

/-- Dividing by a real number other than zero. -/
theorem div_real (x d : ℝ) (hd : d ≠ 0) : Ideal.div (x : EReal) (d : EReal) = ((x * d⁻¹ : ℝ) : EReal) := by
  unfold Ideal.div
  rw [if_neg (by exact_mod_cast hd), ← EReal.coe_inv, ← EReal.coe_mul]

/-- The frequencies are real. -/
theorem real_freq (i : ℕ) : IsReal (Spec.freq i) := by
  unfold Spec.freq
  rw [Spec.num_ten_thousand, Spec.num_thirty_two, Ideal.log_coe, if_neg (by norm_num), ← EReal.coe_neg, ← EReal.coe_mul, div_real _ _ (by norm_num)]
  exact real_coe _

/-- Rounding to four places keeps numbers real. -/
theorem real_round4 {x : EReal} : IsReal x → IsReal (Spec.round4 x) := fun ⟨a, ha⟩ => by
  unfold Spec.round4
  rw [ha, Spec.num_ten_thousand, ← EReal.coe_mul, Ideal.liftRound_coe, div_real _ _ (by norm_num)]
  exact real_coe _

variable (T : IVec ⟨3, ![1024, 200, 2]⟩ 32) (V : FVec Ideal ⟨3, ![1024, 200, 2]⟩ .f32) (ea eb : FVec Ideal ⟨2, ![5, 64]⟩ .f32) (W : FVec Ideal ⟨2, ![512, 256]⟩ .f32)

/-- The positions of finite values are real. -/
theorem real_pos (hV : ∀ i, IsReal (V i)) (b : Fin 1024) (s q : ℕ) : IsReal (Spec.posOf T V b s q) := by
  have hv : ∀ d j, IsReal (Spec.valOf V b d j) := fun d j => by
    unfold Spec.valOf
    split
    · exact hV _
    · exact real_zero
  have hc : ∀ d w j, IsReal (Spec.clipVal w (Spec.valOf V b d j)) := fun d w j => real_select _ real_zero (hv d j)
  unfold Spec.posOf
  split
  · unfold Spec.posKnown
    split
    · exact real_zero
    · exact real_sum _ (fun j => hc _ _ j) _
  · refine real_round4 (real_sum _ (fun j => real_mul (real_coe _) (real_mul ?_ ?_)) _)
    · refine real_select _ ?_ ?_
      · rw [Spec.num_neg_one]; exact real_coe _
      · rw [Spec.num_one]; exact ⟨1, rfl⟩
    · refine real_max (real_max (hc _ _ j) (real_neg (hc _ _ j))) ?_
      rw [Spec.eps_coe]; exact real_coe _

/-- The entries of finite tables are real. -/
theorem real_entry (ha : ∀ i, IsReal (ea i)) (hb : ∀ i, IsReal (eb i)) (q : ℕ) (w : BitVec 32) (j : Fin 64) :
    IsReal (Spec.entry (fun k j => Spec.tableOf ea eb q (ix2 k j)) w j) := by
  unfold Spec.entry
  split
  · unfold Spec.tableOf
    split
    · exact ha _
    · exact hb _
  · exact real_zero

/-- The nearest whole number is at most a half away. -/
theorem round_near (x : ℝ) : |x - (Ideal.roundHalfEven x : ℝ)| ≤ 1 / 2 := by
  have h0 := Int.floor_le x
  have h1 := Int.lt_floor_add_one x
  unfold Ideal.roundHalfEven
  rw [abs_le]
  dsimp only
  split_ifs <;> push_cast <;> constructor <;> linarith

/-- At a real angle, in turns less the nearest whole number, the polynomials are near the cosine and the sine. -/
theorem turn_near (a : ℝ) :
    |Approx.evenPoly (a * (2 * Real.pi)⁻¹ - Ideal.roundHalfEven (a * (2 * Real.pi)⁻¹)) - Real.cos a| ≤ 1 / 512
      ∧ |Approx.oddPoly (a * (2 * Real.pi)⁻¹ - Ideal.roundHalfEven (a * (2 * Real.pi)⁻¹)) - Real.sin a| ≤ 1 / 512 := by
  have h := Approx.near _ (round_near (a * (2 * Real.pi)⁻¹))
  generalize Ideal.roundHalfEven (a * (2 * Real.pi)⁻¹) = n at h ⊢
  have e : 2 * Real.pi * (a * (2 * Real.pi)⁻¹ - n) = a - n * (2 * Real.pi) := by
    have := Real.pi_ne_zero
    field_simp
  rwa [e, Real.cos_sub_int_mul_two_pi, Real.sin_sub_int_mul_two_pi] at h

theorem evenPoly_coe (u : ℝ) : Spec.cosPoly (u : EReal) = (Approx.evenPoly u : EReal) := by
  unfold Spec.cosPoly Approx.evenPoly
  rw [Spec.num_c0, Spec.num_c1, Spec.num_c2, Spec.num_c3]
  simp only [← EReal.coe_mul, ← EReal.coe_add]

theorem oddPoly_coe (u : ℝ) : Spec.sinPoly (u : EReal) = (Approx.oddPoly u : EReal) := by
  unfold Spec.sinPoly Approx.oddPoly
  rw [Spec.num_s0, Spec.num_s1, Spec.num_s2, Spec.num_s3]
  simp only [← EReal.coe_mul, ← EReal.coe_add]

/-- The fraction of a turn of a real angle. -/
theorem frac_coe (a : ℝ) :
    Spec.frac ((a : EReal) * Spec.perTurn) = ((a * (2 * Real.pi)⁻¹ - Ideal.roundHalfEven (a * (2 * Real.pi)⁻¹) : ℝ) : EReal) := by
  unfold Spec.frac Spec.perTurn
  rw [← EReal.coe_mul, Ideal.liftRound_coe, ← EReal.coe_sub]

/-- A feature of a real position, by polynomials and by sine and cosine. -/
theorem wave_near {p : EReal} (hp : IsReal p) (j : ℕ) : ∃ x y : ℝ, Spec.wave p j = x ∧ Ref.waveExact p j = y ∧ |x - y| ≤ 1 / 512 := by
  have angle : ∀ i, ∃ a : ℝ, p * Spec.freq i = a := fun i => real_mul hp (real_freq i)
  unfold Spec.wave Ref.waveExact
  split
  · obtain ⟨a, ha⟩ := angle j
    rw [ha, frac_coe, oddPoly_coe, Ideal.sin_coe]
    exact ⟨_, _, rfl, rfl, (turn_near a).2⟩
  · obtain ⟨a, ha⟩ := angle (j - 32)
    rw [ha, frac_coe, evenPoly_coe, Ideal.cos_coe]
    exact ⟨_, _, rfl, rfl, (turn_near a).1⟩

/-- A sum over quarters and features of real numbers. -/
theorem coe_sum (f : Fin 4 → Fin 64 → ℝ) : ∑ q : Fin 4, ∑ j : Fin 64, ((f q j : ℝ) : EReal) = ((∑ q : Fin 4, ∑ j : Fin 64, f q j : ℝ) : EReal) := by
  have h : ∀ {ι : Type} (t : Finset ι) (g : ι → ℝ), ∑ i ∈ t, ((g i : ℝ) : EReal) = ((∑ i ∈ t, g i : ℝ) : EReal) := fun t g => by
    classical
    induction t using Finset.induction_on with
    | empty => rfl
    | insert a t ha ih => rw [sum_insert ha, sum_insert ha, ih, EReal.coe_add]
  simp only [h]

/-- Features that differ by at most 1/512 give sums that differ by at most 1/512 of the weights' magnitudes. -/
theorem sum_near (e x y w : Fin 4 → Fin 64 → ℝ) (h : ∀ q j, |x q j - y q j| ≤ 1 / 512) :
    |(∑ q : Fin 4, ∑ j : Fin 64, (e q j + x q j) * w q j) - ∑ q : Fin 4, ∑ j : Fin 64, (e q j + y q j) * w q j|
      ≤ 1 / 512 * ∑ q : Fin 4, ∑ j : Fin 64, |w q j| := by
  rw [← sum_sub_distrib, mul_sum]
  refine (abs_sum_le_sum_abs _ _).trans (sum_le_sum fun q _ => ?_)
  rw [← sum_sub_distrib, mul_sum]
  refine (abs_sum_le_sum_abs _ _).trans (sum_le_sum fun j _ => ?_)
  rw [show (e q j + x q j) * w q j - (e q j + y q j) * w q j = (x q j - y q j) * w q j by ring, abs_mul]
  exact mul_le_mul_of_nonneg_right (h q j) (abs_nonneg _)

/-- Every entry of the result is within 1/512 of its weights' magnitudes of the entry with the sine and the cosine. -/
theorem result_near (hV : ∀ i, IsReal (V i)) (ha : ∀ i, IsReal (ea i)) (hb : ∀ i, IsReal (eb i)) (hW : ∀ i, IsReal (W i)) (b : Fin 1024) (s : ℕ) (n : Fin 512) :
    Ideal.cmp .ole
      (max (Spec.result Spec.wave T V ea eb W b s n - Spec.result Ref.waveExact T V ea eb W b s n)
        (-(Spec.result Spec.wave T V ea eb W b s n - Spec.result Ref.waveExact T V ea eb W b s n)))
      (((1 / 512 : ℝ) : EReal) * ∑ q : Fin 4, ∑ j : Fin 64,
        max (W (ix2 n (⟨64 * q.val + j.val, by omega⟩ : Fin 256))) (-(W (ix2 n (⟨64 * q.val + j.val, by omega⟩ : Fin 256))))) = 1#1 := by
  choose e he using fun (q : Fin 4) (j : Fin 64) => real_entry ea eb ha hb q.val (Spec.tokenOf T b s q.val) j
  choose x y hx hy hxy using fun (q : Fin 4) (j : Fin 64) => wave_near (real_pos T V hV b s q.val) j.val
  choose w hw using fun (q : Fin 4) (j : Fin 64) => hW (ix2 n (⟨64 * q.val + j.val, by omega⟩ : Fin 256))
  have hr : ∀ (wv : EReal → ℕ → EReal) (z : Fin 4 → Fin 64 → ℝ), (∀ q j, wv (Spec.posOf T V b s q.val) j.val = z q j) →
      Spec.result wv T V ea eb W b s n = ((∑ q : Fin 4, ∑ j : Fin 64, (e q j + z q j) * w q j : ℝ) : EReal) := fun wv z hz => by
    rw [← coe_sum]
    unfold Spec.result Spec.out
    refine Fintype.sum_congr _ _ fun q => Fintype.sum_congr _ _ fun j => ?_
    rw [EReal.coe_mul, EReal.coe_add, ← he, ← hz, ← hw]
  have hm : ∀ r : ℝ, max (r : EReal) (-(r : EReal)) = ((|r| : ℝ) : EReal) := fun r => by
    rw [← EReal.coe_neg]
    rcases le_total 0 r with h | h
    · rw [abs_of_nonneg h]; exact max_eq_left (EReal.coe_le_coe_iff.2 (by linarith))
    · rw [abs_of_nonpos h]; exact max_eq_right (EReal.coe_le_coe_iff.2 (by linarith))
  simp only [hw]
  rw [hr _ x hx, hr _ y hy, ← EReal.coe_sub, hm]
  simp only [hm]
  rw [coe_sum (fun q j => |w q j|), ← EReal.coe_mul]
  unfold Ideal.cmp
  rw [decide_eq_true (EReal.coe_le_coe_iff.2 (sum_near e x y w hxy))]
  rfl

end Cert.Near
-- ==== Proof.Close.lean ====
/-
  The postcondition, entry by entry: the result is near the projection of the sines and the cosines themselves.
-/
module

public import proofs.«01_k».proof.Post_near_reference
public import proofs.«01_k».proof.Proof.Reference
public import proofs.«01_k».proof.Proof.Near

@[expose] public section

noncomputable section

namespace Cert.Close

open Cert.Post_near_reference Cert.Post_near_reference.Facts Idealize.ShloMosaic

/-- The side conditions of the postcondition's operations. -/
theorem facts : Cert.Post_near_reference.Facts := by constructor <;> decide

attribute [local instance] facts

/-- The comparison that the postcondition makes of a result and an array. -/
def within (out exact : FVec Ideal S1024x200x512 .f32) (W : FVec Ideal S512x256 .f32) : IVec S1024x200x512 1 :=
  cmpf .ole (Host.absf (subf out exact))
    (broadcastInDim S1024x200x512 ![0, 1, 2] bcast_S1x1x512_S1024x200x512_0_1_2 (broadcastInDim S1x1x512 ![2] bcast_S512_S1x1x512_2
      (mulf (broadcastInDim S512 ![] bcast_S_S512 (constant (F := Ideal) S_ .f32 0x3B000000#32))
        (Host.reduceAdd (Host.absf W) (constant (F := Ideal) S_ .f32 0x00000000#32) reducesTo_S512x256_S512_d1 h_S_))))

/-- The postcondition compares the result with the projection of the sines and cosines. -/
theorem post_eq (T : IVec S1024x200x2 32) (V : FVec Ideal S1024x200x2 .f32) (ea eb : FVec Ideal S5x64 .f32) (W : FVec Ideal S512x256 .f32)
    (out : FVec Ideal S1024x200x512 .f32) :
    Cert.Post_near_reference.fn (F := Ideal) T V ea eb W out
      = within out (Cert.Ref.project Cert.Ref.sinusExact (Cert.ReferenceIdeal.Read.val_main_v19 (F := Ideal) T) (Cert.ReferenceIdeal.Read.val_main_v2 (F := Ideal) T)
          (Cert.ReferenceIdeal.Read.val_main_v15 (F := Ideal) T V) (Cert.ReferenceIdeal.Read.val_main_v147 (F := Ideal) T V) ea eb W) W := rfl

/-- One comparison. -/
theorem within_apply (out exact : FVec Ideal S1024x200x512 .f32) (W : FVec Ideal S512x256 .f32) (b : Fin 1024) (s : Fin 200) (n : Fin 512) :
    within out exact W (ix3 b s n) = Ideal.cmp .ole (max (out (ix3 b s n) - exact (ix3 b s n)) (-(out (ix3 b s n) - exact (ix3 b s n))))
      (((1 / 512 : ℝ) : EReal) * ∑ q : Fin 4, ∑ j : Fin 64,
        max (W (ix2 n (⟨64 * q.val + j.val, by omega⟩ : Fin 256))) (-(W (ix2 n (⟨64 * q.val + j.val, by omega⟩ : Fin 256))))) := by
  have h : within out exact W (ix3 b s n) = Ideal.cmp .ole (max (out (ix3 b s n) - exact (ix3 b s n)) (-(out (ix3 b s n) - exact (ix3 b s n))))
      (Spec.num 0x3B000000#32 * ∑ k : Fin 256, max (W (ix2 n k)) (-(W (ix2 n k)))) := by
    unfold within
    pointwise
    rfl
  rw [h, Spec.num_tol]
  obtain ⟨f, hf⟩ : ∃ f : ℕ → EReal, ∀ k : Fin 256, max (W (ix2 n k)) (-(W (ix2 n k))) = f k.val :=
    ⟨fun k => if hk : k < 256 then max (W (ix2 n ⟨k, hk⟩)) (-(W (ix2 n ⟨k, hk⟩))) else 0, fun k => by dsimp only; rw [dif_pos k.isLt]⟩
  simp only [hf]
  exact congrArg (fun x => Ideal.cmp .ole _ (_ * x)) (Spec.sum_blocks (m := 4) (n := 64) f)

/-- The common result meets the postcondition, for tokens without a negative one and finite arguments. -/
theorem post_holds (T : IVec S1024x200x2 32) (V : FVec Ideal S1024x200x2 .f32) (ea eb : FVec Ideal S5x64 .f32) (W : FVec Ideal S512x256 .f32)
    (hT : ∀ i, 0 ≤ (T i).toInt) (hV : ∀ i, Near.IsReal (V i)) (ha : ∀ i, Near.IsReal (ea i)) (hb : ∀ i, Near.IsReal (eb i)) (hW : ∀ i, Near.IsReal (W i)) :
    Cert.Post_near_reference.fn (F := Ideal) T V ea eb W (fun y => Spec.result Spec.wave T V ea eb W (y 0) (y 1).val (y 2)) = fun _ => 1#1 := by
  rw [post_eq]
  funext y
  obtain ⟨b, s, n, rfl⟩ : ∃ (b : Fin 1024) (s : Fin 200) (n : Fin 512), y = ix3 b s n := ⟨y 0, y 1, y 2, eq_ix3 y⟩
  rw [within_apply, Cert.Ref.project_eq T V ea eb W Cert.Ref.sinusExact Cert.Ref.waveExact Cert.Ref.sinusExact_apply hT]
  exact Near.result_near T V ea eb W hV ha hb hW b s.val n

end Cert.Close
-- ==== Proof.Claims.lean ====
/-
  The kernel and the reference end with the same array, and it meets the postcondition.
-/
module

public import proofs.«01_k».proof.Defs
public import proofs.«01_k».proof.Proof.Kernel
public import proofs.«01_k».proof.Proof.Reference
public import proofs.«01_k».proof.Proof.Finite
public import proofs.«01_k».proof.Proof.Close
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import Idealize.ShloMosaic.Adequacy

@[expose] public section

noncomputable section

namespace Cert.Claims

open Idealize.ShloMosaic Idealize.SL.Sem

/-- The side conditions of the operations of the precondition on the tables. -/
theorem tables_facts : Cert.Pre_tables_finite.Facts := by constructor <;> decide

/-- The side conditions of the operations of the precondition on all the arguments. -/
theorem inputs_facts : Cert.Pre_inputs_finite.Facts := by constructor <;> decide

attribute [local instance] Cert.KernelIdeal.Gen.facts Cert.ReferenceIdeal.Gen.facts tables_facts inputs_facts Cert.Close.facts

variable (m : (ℓ : Loc Cert.KernelIdeal.nD Cert.KernelIdeal.τ Cert.KernelIdeal.sig) → Buf (Elt Ideal) ℓ)

/-- The array that both programs end with on a device. -/
def shared (c : Dev Cert.KernelIdeal.nD) : FVec Ideal Cert.KernelIdeal.S1024x200x512 .f32 := fun y =>
  Spec.result Spec.wave (Cert.Body.argT m c) (Cert.Body.argV m c) (Cert.Body.argA m c) (Cert.Body.argB m c) (Cert.Body.argW m c) (y 0) (y 1).val (y 2)

/-- From tokens without a negative one and finite tables, the kernel ends with the shared array. -/
theorem kernel_run (ρ : Dev Cert.KernelIdeal.nD → PrngReg) (hT : ∀ c i, 0 ≤ (Cert.Body.argT m c i).toInt)
    (ha : ∀ c i, ∃ r : ℝ, Cert.Body.argA m c i = r) (hb : ∀ c i, ∃ r : ℝ, Cert.Body.argB m c i = r) (hW : ∀ c i, ∃ r : ℝ, Cert.Body.argW m c i = r) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0) = shared m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run _ _ _).mono (fun _ h c => ⟨(h c).1.trans (Cert.Body.final m c (hT c) (ha c) (hb c) (hW c)), (h c).2⟩) (Cert.KernelIdeal.Value.run_blocks m ρ)

/-- The reference runs and leaves its arguments and its semaphores as they were. -/
theorem reference_frame : quiescent_ReferenceIdeal := fun m ρ _ =>
  (θ_run _ _ _).mono (fun r h => ⟨fun c => (h c).2, sem_eq_zero_of_no_sems (by decide) r.2⟩) (Cert.ReferenceIdeal.Value.run m ρ)

/-- The kernel's array is the reference's, for tokens without a negative one and finite tables. -/
theorem algebraic : algebraic_KernelIdeal_ReferenceIdeal_pre_tables_finite := by
  intro m g m' g' hpre hin
  have hT : ∀ c i, 0 ≤ (Cert.Body.argT m c i).toInt := fun c i => Spec.nonneg_of_sge _ (congrFun (hpre c).1 i)
  refine ⟨shared m, kernel_run m g hT (fun c i => Spec.real_of_olt _ (congrFun (hpre c).2.1 i))
    (fun c i => Spec.real_of_olt _ (congrFun (hpre c).2.2.1 i)) (fun c i => Spec.real_of_olt _ (congrFun (hpre c).2.2.2 i)), ?_⟩
  refine (θ_run _ _ _).mono (fun _ h c => ⟨(h c).1.trans ?_, (h c).2⟩) (Cert.ReferenceIdeal.Value.run m' g')
  refine (Cert.ReferenceIdeal.Read.val_main_v246_eq (F := Ideal) _).trans ?_
  obtain ⟨h0, h1, h2, h3, h4⟩ := hin c
  refine Eq.trans (?_ : _ = Cert.ReferenceIdeal.Read.val_main_v246 (F := Ideal) (Cert.Body.argT m c) (Cert.Body.argV m c) (Cert.Body.argA m c) (Cert.Body.argB m c) (Cert.Body.argW m c))
    (Cert.Ref.val_apply_eq _ _ _ _ _ (hT c))
  exact congr (congr (congr (congr (congrArg (Cert.ReferenceIdeal.Read.val_main_v246 (F := Ideal)) h0) h1) h2) h3) h4

/-- The kernel's array is near what the sines and the cosines themselves give, for finite arguments. -/
theorem holds : holds_KernelIdeal_near_reference_pre_inputs_finite := by
  intro m g hpre
  have hT : ∀ c i, 0 ≤ (Cert.Body.argT m c i).toInt := fun c i => Spec.nonneg_of_sge _ (congrFun (hpre c).1 i)
  have hV : ∀ c i, Near.IsReal (Cert.Body.argV m c i) := fun c i => Spec.real_of_olt _ (congrFun (hpre c).2.1 i)
  have ha : ∀ c i, Near.IsReal (Cert.Body.argA m c i) := fun c i => Spec.real_of_olt _ (congrFun (hpre c).2.2.1 i)
  have hb : ∀ c i, Near.IsReal (Cert.Body.argB m c i) := fun c i => Spec.real_of_olt _ (congrFun (hpre c).2.2.2.1 i)
  have hW : ∀ c i, Near.IsReal (Cert.Body.argW m c i) := fun c i => Spec.real_of_olt _ (congrFun (hpre c).2.2.2.2 i)
  refine (θ_run _ _ _).mono (fun r h c => ?_) (kernel_run m g hT ha hb hW)
  obtain ⟨ho, h0, h1, h2, h3, h4⟩ := h c
  refine ⟨h0, h1, h2, h3, h4, ?_⟩
  refine Eq.trans (congrArg (Cert.Post_near_reference.fn (F := Ideal) (Cert.Body.argT m c) (Cert.Body.argV m c) (Cert.Body.argA m c) (Cert.Body.argB m c) (Cert.Body.argW m c)) ho) ?_
  exact Cert.Close.post_holds _ _ _ _ _ (hT c) (hV c) (ha c) (hb c) (hW c)

end Cert.Claims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Claims.tables_facts, Cert.Claims.inputs_facts, Cert.Close.facts,
    fun m ρ _ => Cert.Kernel.Gen.frame m ρ, fun m ρ _ => Cert.KernelIdeal.Gen.frame m ρ, fun m ρ _ => Cert.KernelIdeal.Gen.frame m ρ, fun m ρ _ => Cert.KernelIdeal.Gen.frame m ρ,
    Cert.Claims.reference_frame, fun m ρ _ => Cert.Claims.reference_frame m ρ trivial,
    IdealRules.named_const.statement _ _ _ _ _ rfl, Cert.Claims.algebraic, Cert.Claims.holds⟩

end Cert.Proof

end
